-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S2048x2048 : Shape := ⟨2, ![2048, 2048]⟩
abbrev S15 : Shape := ⟨1, ![15]⟩
abbrev S_ : Shape := ⟨0, ![]⟩
abbrev S1 : Shape := ⟨1, ![1]⟩
abbrev S128x2048 : Shape := ⟨2, ![128, 2048]⟩
abbrev S256x256 : Shape := ⟨2, ![256, 256]⟩
abbrev S88x2048 : Shape := ⟨2, ![88, 2048]⟩
abbrev S80x2048 : Shape := ⟨2, ![80, 2048]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x256, .f32⟩
  | .hbm, ⟨2, _⟩ => ⟨S2048x256, .f32⟩
  | .local _ .vmem, ⟨0, _⟩ => ⟨S256x2048, .f32⟩
  | .local _ .vmem, ⟨1, _⟩ => ⟨S2048x256, .f32⟩
  | .local _ .vmem, ⟨2, _⟩ => ⟨S2048x256, .f32⟩
  | .local _ .vmem, ⟨3, _⟩ => ⟨S2048x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v13 : BitVec 32 := Scalar.muli v2 c256_i32
  let v14 : BitVec 32 := Scalar.addi v13 c0_i32_10
  let c0_i32_15 : BitVec 32 := 0#32
  ![v14.toNat, 0]
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_13 : BitVec 32 := 1#32
  let v15 : BitVec 32 := Scalar.muli v3 c1_i32_13
  let v16 : BitVec 32 := Scalar.addi c0_i32_14 v15
  v16.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_22 : BitVec 32 := 1#32
  let v25 : BitVec 32 := Scalar.muli v4 c1_i32_22
  let v26 : BitVec 32 := Scalar.addi c0_i32_23 v25
  v26.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_30 : BitVec 32 := 1#32
  let v35 : BitVec 32 := Scalar.muli v5 c1_i32_30
  let v36 : BitVec 32 := Scalar.addi c0_i32_31 v35
  v36.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_38 : BitVec 32 := 1#32
  let v45 : BitVec 32 := Scalar.muli v3 c1_i32_38
  let v46 : BitVec 32 := Scalar.addi c0_i32_39 v45
  v46.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_47 : BitVec 32 := 1#32
  let v55 : BitVec 32 := Scalar.muli v4 c1_i32_47
  let v56 : BitVec 32 := Scalar.addi c0_i32_48 v55
  v56.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_55 : BitVec 32 := 1#32
  let v65 : BitVec 32 := Scalar.muli v5 c1_i32_55
  let v66 : BitVec 32 := Scalar.addi c0_i32_56 v65
  v66.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_64 : BitVec 32 := 256#32
  let v80 : BitVec 32 := Scalar.muli v2 c256_i32_64
  let v81 : Index := Scalar.indexCast v80
  let c0_65 : Index := 0#32
  ![v81.toNat, 0]
def k0_off3 (d0 : Dev nD) (c3_i32_66 : BitVec 32) (c0_i32_79 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v83 : BitVec 32 := Scalar.xori v2 c3_i32_66
  let c256_i32_78 : BitVec 32 := 256#32
  let v94 : BitVec 32 := Scalar.muli v83 c256_i32_78
  let v95 : BitVec 32 := Scalar.addi v94 c0_i32_79
  let c0_i32_83 : BitVec 32 := 0#32
  ![v95.toNat, 0]
def k0_off3_at (r : Fin 6) : BitVec 32 × BitVec 32 :=
  if r.val < 3 then
    if r.val < 1 then
      (3#32, 0#32)
    else
      if r.val < 2 then
        (4#32, 0#32)
      else
        (1#32, 0#32)
  else
    if r.val < 4 then
      (3#32, 128#32)
    else
      if r.val < 5 then
        (4#32, 128#32)
      else
        (1#32, 128#32)
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_81 : BitVec 32 := 1#32
  let v96 : BitVec 32 := Scalar.muli v3 c1_i32_81
  let v97 : BitVec 32 := Scalar.addi c0_i32_82 v96
  v97.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_97 : BitVec 32 := 1#32
  let v114 : BitVec 32 := Scalar.muli v4 c1_i32_97
  let v115 : BitVec 32 := Scalar.addi c0_i32_98 v114
  v115.toNat
def k0_dev12 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_114 : BitVec 32 := 1#32
  let v132 : BitVec 32 := Scalar.muli v5 c1_i32_114
  let v133 : BitVec 32 := Scalar.addi c0_i32_115 v132
  v133.toNat
def k0_dev13 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_130 : BitVec 32 := 1#32
  let v150 : BitVec 32 := Scalar.muli v3 c1_i32_130
  let v151 : BitVec 32 := Scalar.addi c0_i32_131 v150
  v151.toNat
def k0_dev14 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_146 : BitVec 32 := 1#32
  let v168 : BitVec 32 := Scalar.muli v4 c1_i32_146
  let v169 : BitVec 32 := Scalar.addi c0_i32_147 v168
  v169.toNat
def k0_dev15 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_162 : BitVec 32 := 1#32
  let v186 : BitVec 32 := Scalar.muli v5 c1_i32_162
  let v187 : BitVec 32 := Scalar.addi c0_i32_163 v186
  v187.toNat
def k0_off4 (d0 : Dev nD) (c1_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v194 : BitVec 32 := Scalar.xori v2 c1_i32_166
  let c256_i32_169 : BitVec 32 := 256#32
  let v197 : BitVec 32 := Scalar.muli v194 c256_i32_169
  let v198 : Index := Scalar.indexCast v197
  let c0_170 : Index := 0#32
  ![v198.toNat, 0]
def k0_off5 (d0 : Dev nD) (c1_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v194 : BitVec 32 := Scalar.xori v2 c1_i32_166
  let c256_i32_175 : BitVec 32 := 256#32
  let v205 : BitVec 32 := Scalar.muli v194 c256_i32_175
  let v206 : Index := Scalar.indexCast v205
  let c0_176 : Index := 0#32
  ![v206.toNat, 0]
def k0_off6 (d0 : Dev nD) (c7_i32_193 : BitVec 32) (c0_i32_205 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v230 : BitVec 32 := Scalar.xori v2 c7_i32_193
  let c256_i32_204 : BitVec 32 := 256#32
  let v241 : BitVec 32 := Scalar.muli v230 c256_i32_204
  let v242 : BitVec 32 := Scalar.addi v241 c0_i32_205
  let c0_i32_209 : BitVec 32 := 0#32
  ![v242.toNat, 0]
def k0_off6_at (r : Fin 2) : BitVec 32 × BitVec 32 :=
  if r.val < 1 then
    (7#32, 0#32)
  else
    (5#32, 88#32)
def k0_dev16 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_207 : BitVec 32 := 1#32
  let v243 : BitVec 32 := Scalar.muli v3 c1_i32_207
  let v244 : BitVec 32 := Scalar.addi c0_i32_208 v243
  v244.toNat
def k0_dev17 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_233 : BitVec 32 := 1#32
  let v273 : BitVec 32 := Scalar.muli v4 c1_i32_233
  let v274 : BitVec 32 := Scalar.addi c0_i32_234 v273
  v274.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_195 : BitVec 32 := 2#32
  let v232 : BitVec 32 := Scalar.xori v2 c2_i32_195
  let c256_i32_244 : BitVec 32 := 256#32
  let v289 : BitVec 32 := Scalar.muli v232 c256_i32_244
  let c176_i32_245 : BitVec 32 := 176#32
  let v290 : BitVec 32 := Scalar.addi v289 c176_i32_245
  let c0_i32_249 : BitVec 32 := 0#32
  ![v290.toNat, 0]
def k0_dev18 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_247 : BitVec 32 := 1#32
  let v291 : BitVec 32 := Scalar.muli v5 c1_i32_247
  let v292 : BitVec 32 := Scalar.addi c0_i32_248 v291
  v292.toNat
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealProto.lean ====
/-
  The protocol of the all-gather: who sends which rows to whom, on which semaphores, and what each
  semaphore's payment hands over.

  Device `c` talks to three partners, `c xor 1`, `c xor 3` and `c xor 4`. Fifteen transfers leave every
  device. Numbered in the order in which they are started, transfer `i` goes to partner `i mod 3`. The first
  six carry the device's own block of `x` in two halves; the next six pass on halves just received; the last
  three pass on pieces of blocks that already travelled two links.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.FamCut
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the transfers' (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices and the table of transfers -/

set_option backward.proofsInPublic true in
/-- The device whose number differs from `c`'s in the bits of `k`. -/
def dx (k : Fin 8) (c : Dev nD) : Dev nD := ⟨(c.val ^^^ k.val) % 8, Nat.mod_lt _ (by decide)⟩

theorem dx_dx (k : Fin 8) (c : Dev nD) : dx k (dx k c) = c := by revert k c; decide +kernel
theorem dx_zero (c : Dev nD) : dx 0 c = c := by revert c; decide +kernel

/-- Partner `l` of device `c`. -/
def pt (l : Fin 3) (c : Dev nD) : Dev nD := dx (![1, 3, 4] l) c
theorem pt_pt (l : Fin 3) (c : Dev nD) : pt l (pt l c) = c := dx_dx _ c
/-- Exchanging every device with its partner `l`. -/
def ptEquiv (l : Fin 3) : Dev nD ≃ Dev nD := ⟨pt l, pt l, pt_pt l, pt_pt l⟩
theorem pt_ne (c : Dev nD) : ∀ l l' : Fin 3, pt l c = pt l' c → l = l' := by revert c; decide +kernel

/-- The partner transfer `i` goes to. -/
def lk : Fin 15 → Fin 3 := ![0, 1, 2, 0, 1, 2, 0, 1, 2, 0, 1, 2, 0, 1, 2]
/-- How many rows transfer `i` carries. -/
def ln : Fin 15 → ℕ := ![128, 128, 128, 128, 128, 128, 128, 128, 128, 128, 128, 128, 88, 88, 80]
/-- The bits in which the receiver of transfer `i` differs from the device whose block it carries. -/
def kk : Fin 15 → Fin 8 := ![1, 3, 4, 1, 3, 4, 2, 7, 5, 2, 7, 5, 6, 6, 6]
/-- The bits in which the sender of transfer `i` differs from the device whose block it carries. -/
def ks : Fin 15 → Fin 8 := ![0, 0, 0, 0, 0, 0, 3, 4, 1, 3, 4, 1, 7, 5, 2]
/-- The first row of transfer `i` inside its block. -/
def ss : Fin 15 → ℕ := ![0, 0, 0, 128, 128, 128, 0, 0, 0, 128, 128, 128, 0, 88, 176]

/-- The first row at which transfer `i` lands on its receiver `c`. -/
def rr (c : Dev nD) (i : Fin 15) : ℕ := 256 * (dx (kk i) c).val + ss i
/-- The first row at which the transfer `i` that `c` sends lands on `c`'s partner. -/
def sr (c : Dev nD) (i : Fin 15) : ℕ := 256 * (dx (ks i) c).val + ss i

theorem rr_pt (c : Dev nD) (i : Fin 15) : rr (pt (lk i) c) i = sr c i := by revert c i; decide +kernel
theorem sr_pt (c : Dev nD) (i : Fin 15) : sr (pt (lk i) c) i = rr c i := by revert c i; decide +kernel
theorem rr_le (c : Dev nD) (i : Fin 15) : rr c i + ln i ≤ 2048 := by revert c i; decide +kernel
theorem ln_pos (i : Fin 15) : 0 < ln i := by revert i; decide +kernel
theorem rr_disj (c : Dev nD) (i j : Fin 15) : i ≠ j → rr c i + ln i ≤ rr c j ∨ rr c j + ln j ≤ rr c i := by
  revert c i j; decide +kernel

/-! ## The buffers and the semaphores -/

abbrev xM : Memref sig .tc .vmem S256x2048 .f32 := Memref.whole cc0_stg0_0
abbrev wM : Memref sig .tc .vmem S2048x256 .f32 := Memref.whole cc0_stg1_0
abbrev oM : Memref sig .tc .vmem S2048x256 .f32 := Memref.whole cc0_stg2_0
abbrev gM : Memref sig .tc .vmem S2048x2048 .f32 := Memref.whole cc0_scratch0

abbrev barS : Sem sig := (SemArray.scalar (sig.barrier 0 rfl) : Sems sig S_).sem
set_option backward.proofsInPublic true in
/-- The semaphore a device waits on before the source of its transfer `i` is its own again. -/
abbrev sendS (i : Fin 15) : DmaSem sig := (⟨3 + i.val, Nat.lt_of_lt_of_le (Nat.add_lt_add_left i.isLt 3) (by decide)⟩ : Fin 33)
set_option backward.proofsInPublic true in
/-- The semaphore the receiver of transfer `i` waits on. -/
abbrev recvS (i : Fin 15) : DmaSem sig := (⟨18 + i.val, Nat.lt_of_lt_of_le (Nat.add_lt_add_left i.isLt 18) (by decide)⟩ : Fin 33)

abbrev bcell (c : Dev nD) : GSem nD τ sig := ((c : Thread nD τ), .reg barS)
abbrev scell (c : Dev nD) (i : Fin 15) : GSem nD τ sig := ((c : Thread nD τ), .dma (sendS i))
abbrev rcell (c : Dev nD) (i : Fin 15) : GSem nD τ sig := ((c : Thread nD τ), .dma (recvS i))

/-- What a transfer of `n` whole rows of 2048 numbers credits. -/
def cred_rows (n : ℕ) : ℕ := sig.dmaCredit .tc (Kind.tc.table .vmem) gM.view.buf ⟨2, ![n, 2048]⟩ .f32
/-- What transfer `i` credits. -/
def N (i : Fin 15) : ℕ := cred_rows (ln i)

theorem N_pos (i : Fin 15) : 0 < N i := by revert i; decide +kernel

/-! ## Rows of a two-axis array -/

/-- The elements of rows `r` to `r + n - 1`. -/
def rows {R C : ℕ} (r n : ℕ) : Finset (Shape.Idx ⟨2, ![R, C]⟩) :=
  Finset.univ.filter fun j => r ≤ (j 0).val ∧ (j 0).val < r + n

theorem mem_rows {R C r n : ℕ} {j : Shape.Idx ⟨2, ![R, C]⟩} : j ∈ rows r n ↔ r ≤ (j 0).val ∧ (j 0).val < r + n := by
  simp [rows]

theorem rows_disj {R C r n r' n' : ℕ} (h : r + n ≤ r' ∨ r' + n' ≤ r) :
    Disjoint (rows r n : Finset (Shape.Idx ⟨2, ![R, C]⟩)) (rows r' n') := by
  rw [Finset.disjoint_left]; intro j h1 h2; rw [mem_rows] at h1 h2; omega

theorem rows_add {R C r n m : ℕ} (j : Shape.Idx ⟨2, ![R, C]⟩) :
    j ∈ rows r (n + m) ↔ j ∈ rows r n ∨ j ∈ rows (r + n) m := by
  rw [mem_rows, mem_rows, mem_rows]; omega

theorem rows_all {R C : ℕ} : (rows 0 R : Finset (Shape.Idx ⟨2, ![R, C]⟩)) = Finset.univ := by
  ext j
  have h : (j 0).val < R := (j 0).isLt
  rw [mem_rows]; simp [h]

/-- A rectangle of whole rows is those rows. -/
theorem rect_rows {R C r n : ℕ} (inb) :
    (Rect.unit (s := ⟨2, ![R, C]⟩) ![r, 0] ![n, C] inb).set = rows r n := by
  ext j
  rw [Rect.mem_set_unit, mem_rows]
  constructor
  · intro h; exact h 0
  · intro h a
    match a with
    | ⟨0, _⟩ => exact h
    | ⟨1, _⟩ => exact ⟨Nat.zero_le _, by have := (j 1).isLt; simpa using this⟩

/-! ## Contents -/

section Contents

/-- Every device's block of `x`, and its block of `w`. -/
abbrev XT (F : FTy → Type) : Type := Dev nD → S256x2048.Idx → Elt F .f32
abbrev WT (F : FTy → Type) : Type := Dev nD → S2048x256.Idx → Elt F .f32

set_option backward.proofsInPublic true in
/-- The device whose block holds row `r`. -/
def blkOf (r : Fin 2048) : Dev nD := ⟨r.val / 256, Nat.div_lt_of_lt_mul r.isLt⟩
set_option backward.proofsInPublic true in
/-- The place of row `r` inside its block. -/
def rowOf (r : Fin 2048) : Fin 256 := ⟨r.val % 256, Nat.mod_lt _ (by decide)⟩

/-- The element at a row and a column. -/
def at2 {R C : ℕ} (r : Fin R) (j : Fin C) : Shape.Idx ⟨2, ![R, C]⟩ :=
  Fin.cons r (Fin.cons j finZeroElim)

theorem at2_eta {R C : ℕ} (i : Shape.Idx ⟨2, ![R, C]⟩) : i = at2 (i 0) (i 1) := by
  funext a
  match a with
  | ⟨0, _⟩ => rfl
  | ⟨1, _⟩ => rfl

/-- All of `x`: the blocks one under the other. -/
def G (X : XT F) : S2048x2048.Idx → Elt F .f32 := fun i => X (blkOf (i 0)) (at2 (rowOf (i 0)) (i 1))

/-- One block of the result on one device: the block of `x` times the device's columns of `w`, no entry below zero. -/
def blkv (x : S256x2048.Idx → Elt F .f32) (w : S2048x256.Idx → Elt F .f32) : S256x256.Idx → Elt F .f32 := k0_pay5 x w

/-- All of the result on device `c`: the eight blocks one under the other. -/
def outG (X : XT F) (W : WT F) (c : Dev nD) : S2048x256.Idx → Elt F .f32 :=
  fun i => blkv (X (blkOf (i 0))) (W c) (at2 (rowOf (i 0)) (i 1))

end Contents

/-! ## What is held of the buffers -/

/-- Rows of device `c`'s gathering buffer, holding all of `x`'s rows there. -/
def gp (X : XT F) (c : Dev nD) (r n : ℕ) (q : PosShare TreeShare) : sProp 𝕄 :=
  ((c : Thread nD τ).loc cc0_scratch0) ↦[rows r n]{q} G X
/-- Rows of device `c`'s gathering buffer, holding anything. -/
def gj (c : Dev nD) (r n : ℕ) : sProp 𝕄 :=
  iprop(∃ f, ((c : Thread nD τ).loc cc0_scratch0) ↦[rows r n]{fullShare} f)
/-- Rows of device `c`'s own block of `x`. -/
def xp (X : XT F) (c : Dev nD) (r n : ℕ) (q : PosShare TreeShare) : sProp 𝕄 :=
  ((c : Thread nD τ).loc cc0_stg0_0) ↦[rows r n]{q} X c

instance gp_storable (X : XT F) (c r n q) : BI.Storable (upEmb : UEmb _ 𝕄) (gp X c r n q) := by unfold gp; infer_instance
omit [FloatOps F] in
instance gj_storable (c r n) : BI.Storable (upEmb : UEmb _ 𝕄) (gj (F := F) c r n) := by unfold gj; infer_instance
instance xp_storable (X : XT F) (c r n q) : BI.Storable (upEmb : UEmb _ 𝕄) (xp X c r n q) := by unfold xp; infer_instance

/-- Rows of a buffer held, split at a row. -/
theorem pts_rows_add (ℓ : Loc nD τ sig) (S I J : Finset (Idx ℓ)) (q : PosShare TreeShare) (f : Buf (Elt F) ℓ)
    (hS : ∀ j, j ∈ S ↔ j ∈ I ∨ j ∈ J) (hd : Disjoint I J) :
    (ℓ ↦[S]{q} f : sProp 𝕄) = iprop((ℓ ↦[I]{q} f) ∗ ℓ ↦[J]{q} f) := by
  rw [show S = I ∪ J from by ext j; rw [Finset.mem_union]; exact hS j]
  exact equiv_iff.mp ⟨(pointsTo_union hd).1, (pointsTo_union hd).2⟩

theorem gp_add (X : XT F) (c : Dev nD) (r n m : ℕ) (q : PosShare TreeShare) :
    gp X c r (n + m) q = iprop(gp X c r n q ∗ gp X c (r + n) m q) :=
  pts_rows_add ((c : Thread nD τ).loc cc0_scratch0) (rows r (n + m)) (rows r n) (rows (r + n) m) q (G X) rows_add
    (rows_disj (R := 2048) (C := 2048) (Or.inl le_rfl))
theorem xp_add (X : XT F) (c : Dev nD) (r n m : ℕ) (q : PosShare TreeShare) :
    xp X c r (n + m) q = iprop(xp X c r n q ∗ xp X c (r + n) m q) :=
  pts_rows_add ((c : Thread nD τ).loc cc0_stg0_0) (rows r (n + m)) (rows r n) (rows (r + n) m) q (X c) rows_add
    (rows_disj (R := 256) (C := 2048) (Or.inl le_rfl))
theorem gp_half (X : XT F) (c : Dev nD) (r n : ℕ) (q : PosShare TreeShare) :
    gp X c r n q = iprop(gp X c r n q.left ∗ gp X c r n q.right) := by
  unfold gp; exact equiv_iff.mp ⟨(pointsTo_share (PosShare.mem_left_op_right q)).1, (pointsTo_share (PosShare.mem_left_op_right q)).2⟩
theorem xp_half (X : XT F) (c : Dev nD) (r n : ℕ) (q : PosShare TreeShare) :
    xp X c r n q = iprop(xp X c r n q.left ∗ xp X c r n q.right) := by
  unfold xp; exact equiv_iff.mp ⟨(pointsTo_share (PosShare.mem_left_op_right q)).1, (pointsTo_share (PosShare.mem_left_op_right q)).2⟩

/-- The share of its block of `x` a device lends to its transfers along link `l`. -/
def xq : Fin 3 → PosShare TreeShare :=
  ![fullShare.right.left, fullShare.right.right.left, fullShare.right.right.right]

/-- What device `c` gets for transfer `i`: the right to write the rows it lands in on the partner. -/
def zn (c : Dev nD) (i : Fin 15) : sProp 𝕄 := gj (pt (lk i) c) (sr c i) (ln i)
/-- What partner `l`'s signal hands device `c`: that right for the five transfers along link `l`. -/
def barPay (c : Dev nD) : Fin 3 → sProp 𝕄 :=
  ![iprop(zn c 0 ∗ zn c 3 ∗ zn c 6 ∗ zn c 9 ∗ zn c 12),
    iprop(zn c 1 ∗ zn c 4 ∗ zn c 7 ∗ zn c 10 ∗ zn c 13),
    iprop(zn c 2 ∗ zn c 5 ∗ zn c 8 ∗ zn c 11 ∗ zn c 14)]
/-- What the landing of transfer `i` hands its receiver: the rows, holding `x`'s. -/
def recvPay (X : XT F) (c : Dev nD) (i : Fin 15) : sProp 𝕄 := gp X c (rr c i) (ln i) fullShare
/-- What transfer `i` hands back to its sender: the rows it lent. -/
def sendPay (X : XT F) (c : Dev nD) (i : Fin 15) : sProp 𝕄 :=
  if i.val < 6 then xp X c (ss i) 128 (xq (lk i)) else gp X c (sr c i) (ln i) fullShare.right

omit [FloatOps F] in
instance zn_storable (c i) : BI.Storable (upEmb : UEmb _ 𝕄) (zn (F := F) c i) := by unfold zn; infer_instance
omit [FloatOps F] in
instance barPay_storable (c l) : BI.Storable (upEmb : UEmb _ 𝕄) (barPay (F := F) c l) := by
  fin_cases l <;> (dsimp [barPay]; infer_instance)
instance recvPay_storable (X : XT F) (c i) : BI.Storable (upEmb : UEmb _ 𝕄) (recvPay X c i) := by unfold recvPay; infer_instance
instance sendPay_storable (X : XT F) (c i) : BI.Storable (upEmb : UEmb _ 𝕄) (sendPay X c i) := by
  unfold sendPay; split <;> infer_instance

/-! ## The schedule -/

/-- Which duties a semaphore's one round has: a barrier three, a transfer's semaphore one, a staging semaphore none. -/
def dutiesOf : SemLoc sig → Finset (Fin 3)
  | .reg _ => Finset.univ
  | .dma q => if 3 ≤ (q : Fin 33).val then {0} else ∅

/-- The transfer a send or receive semaphore belongs to. -/
def idxOf (q : Fin 33) : Fin 15 := ⟨(q.val - 3) % 15, Nat.mod_lt _ (by decide)⟩

def amountAt : SemLoc sig → ℕ
  | .reg _ => 1
  | .dma q => N (idxOf q)

def payAt (X : XT F) (c : Dev nD) : SemLoc sig → Fin 3 → sProp 𝕄
  | .reg _, l => barPay c l
  | .dma q, _ => if 18 ≤ (q : Fin 33).val then recvPay X c (idxOf q) else sendPay X c (idxOf q)

/-- One round, round 0, at every semaphore of the transfers. -/
def Rd (X : XT F) : Rounds.Schedule (GSem nD τ sig) (Fin 3) 𝕄 where
  duties g r := if r = 0 ∧ g.1.2 = .tc then dutiesOf g.2 else ∅
  unitless _ := False
  amount g _ _ := amountAt g.2
  payload g _ d := payAt X g.1.1 g.2 d
  amount_pos g _ _ _ := by
    rcases g with ⟨_, q | q⟩
    · exact Nat.one_pos
    · exact N_pos _

instance Rd_payload_storable (X : XT F) (g : GSem nD τ sig) (r : ℕ) (d : Fin 3) :
    BI.Storable (upEmb : UEmb _ 𝕄) ((Rd X).payload g r d) := by
  rcases g with ⟨p, q | q⟩
  · show BI.Storable upEmb (barPay p.1 d); infer_instance
  · show BI.Storable upEmb (if 18 ≤ (q : Fin 33).val then recvPay X p.1 (idxOf q) else sendPay X p.1 (idxOf q))
    split <;> infer_instance

section Sched
variable (X : XT F) (c : Dev nD) (i : Fin 15)

theorem idx_send : idxOf (sendS i) = i := by revert i; decide +kernel
theorem idx_recv : idxOf (recvS i) = i := by revert i; decide +kernel

theorem duties_bar : (Rd X).duties (bcell c) 0 = Finset.univ := rfl
theorem duties_dma (q : Fin 33) (h : 3 ≤ q.val) : (Rd X).duties ((c : Thread nD τ), .dma q) 0 = {0} := by
  dsimp only [Rd, dutiesOf]; rw [if_pos ⟨rfl, rfl⟩, if_pos h]
theorem duties_send : (Rd X).duties (scell c i) 0 = {0} := duties_dma X c (sendS i) (Nat.le_add_right 3 _)
theorem duties_recv : (Rd X).duties (rcell c i) 0 = {0} :=
  duties_dma X c (recvS i) ((by decide : 3 ≤ 18).trans (Nat.le_add_right 18 _))
theorem duties_later (g : GSem nD τ sig) : ∀ r, 1 ≤ r → (Rd X).duties g r = ∅ :=
  fun r hr => if_neg fun h => by omega

theorem amount_bar (d : Fin 3) : (Rd X).amount (bcell c) 0 d = 1 := rfl
theorem amount_send (d : Fin 3) : (Rd X).amount (scell c i) 0 d = N i := congrArg N (idx_send i)
theorem amount_recv (d : Fin 3) : (Rd X).amount (rcell c i) 0 d = N i := congrArg N (idx_recv i)

theorem expect_bar : (Rd X).expect (bcell c) 0 = 3 := by
  unfold Schedule.expect Schedule.amountOf
  rw [duties_bar, Finset.sum_congr rfl fun d _ => amount_bar X c d, Finset.sum_const, Finset.card_univ, Fintype.card_fin, smul_eq_mul]
theorem expect_send : (Rd X).expect (scell c i) 0 = N i := by
  unfold Schedule.expect Schedule.amountOf; rw [duties_send, Finset.sum_singleton, amount_send]
theorem expect_recv : (Rd X).expect (rcell c i) 0 = N i := by
  unfold Schedule.expect Schedule.amountOf; rw [duties_recv, Finset.sum_singleton, amount_recv]

theorem payload_bar (l : Fin 3) : (Rd X).payload (bcell c) 0 l = barPay c l := rfl
theorem payload_send (d : Fin 3) : (Rd X).payload (scell c i) 0 d = sendPay X c i := by
  show (if 18 ≤ 3 + i.val then recvPay X c (idxOf (sendS i)) else sendPay X c (idxOf (sendS i))) = _
  rw [if_neg (by omega), idx_send]
theorem payload_recv (d : Fin 3) : (Rd X).payload (rcell c i) 0 d = recvPay X c i := by
  show (if 18 ≤ 18 + i.val then recvPay X c (idxOf (recvS i)) else sendPay X c (idxOf (recvS i))) = _
  rw [if_pos (by omega), idx_recv]

theorem rest_bar : bigSep ((Rd X).duties (bcell c) 0 \ ∅) (fun d => (Rd X).payload (bcell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd X).duties (scell c i) 0 \ ∅) (fun d => (Rd X).payload (scell c i) 0 d) = sendPay X c i := by
  rw [Finset.sdiff_empty, duties_send, bigSep_singleton, payload_send]
theorem rest_recv : bigSep ((Rd X).duties (rcell c i) 0 \ ∅) (fun d => (Rd X).payload (rcell c i) 0 d) = recvPay X c i := by
  rw [Finset.sdiff_empty, duties_recv, bigSep_singleton, payload_recv]

end Sched

/-! ## What a device owes; the levels -/

/-- What device `c` still owes its partners' receive semaphores when the transfers of the list are still to start. -/
def owe (c : Dev nD) : List (Fin 15) → CellTallies nD τ sig Unit
  | [] => 0
  | i :: is => owe c is + tallyAt (rcell (pt (lk i) c) i) () (N i)

/-- The same and the signals to partners 1 and 2, to partner 2 alone. -/
def O₃ (c : Dev nD) : CellTallies nD τ sig Unit := owe c (List.finRange 15)
def O₂ (c : Dev nD) : CellTallies nD τ sig Unit := O₃ c + tallyAt (bcell (pt 2 c)) () 1
def O₁ (c : Dev nD) : CellTallies nD τ sig Unit := O₂ c + tallyAt (bcell (pt 1 c)) () 1
/-- What device `c` owes at the start: its fifteen transfers and its three signals. -/
def O₀ (c : Dev nD) : CellTallies nD τ sig Unit := O₁ c + tallyAt (bcell (pt 0 c)) () 1

def L (g : GSem nD τ sig) : Finset Unit := if g.1.2 = .tc then {()} else ∅
/-- Staging and send semaphores lowest, then the barrier, then the receive semaphores of the first six transfers, of the
    next six, of the last three. -/
def lvs : SemLoc sig → ℕ
  | .reg _ => 1
  | .dma q => if (q : Fin 33).val < 18 then 0 else if (q : Fin 33).val < 24 then 2 else if (q : Fin 33).val < 30 then 3 else 4
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u v : Unit} {n : ℕ} (h : 0 < tallyAt g u n g' v) : g' = g := by
  rw [tallyAt_apply] at h
  by_contra hn
  rw [if_neg (fun h' => hn h'.1)] at h
  exact Nat.lt_irrefl 0 h

theorem owe_pos {c : Dev nD} {g : GSem nD τ sig} {u : Unit} : ∀ {l : List (Fin 15)}, 0 < owe c l g u →
    ∃ i ∈ l, g = rcell (pt (lk i) c) i
  | [], h => absurd h (Nat.lt_irrefl 0)
  | i :: is, h => by
      unfold owe at h
      rw [Pi.add_apply, Finsupp.add_apply] at h
      rcases Nat.pos_of_ne_zero (Nat.pos_iff_ne_zero.mp h) |> Nat.add_pos_iff_pos_or_pos.mp with h | h
      · obtain ⟨j, hj, e⟩ := owe_pos h; exact ⟨j, List.mem_cons_of_mem _ hj, e⟩
      · exact ⟨i, List.mem_cons_self, tally_pos h⟩

theorem O₀_pos {c : Dev nD} {g : GSem nD τ sig} {u : Unit} (h : 0 < O₀ c g u) :
    (∃ i, g = rcell (pt (lk i) c) i) ∨ ∃ l, g = bcell (pt l c) := by
  unfold O₀ O₁ O₂ at h
  simp only [Pi.add_apply, Finsupp.add_apply, Nat.add_pos_iff_pos_or_pos] at h
  rcases h with ((h | h) | h) | h
  · obtain ⟨i, -, e⟩ := owe_pos h; exact Or.inl ⟨i, e⟩
  · exact Or.inr ⟨2, tally_pos h⟩
  · exact Or.inr ⟨1, tally_pos h⟩
  · exact Or.inr ⟨0, tally_pos h⟩

theorem lvs_recv (i : Fin 15) : 2 ≤ lvs (.dma (recvS i)) := by revert i; decide +kernel

omit [FloatOps F] in
/-- A device may wait on a semaphore that is below the receive semaphores of every transfer it has still to start. -/
theorem mayWait_owe (c : Dev nD) (sm : SemLoc sig) (l : List (Fin 15)) (h : ∀ i ∈ l, lvs sm < lvs (.dma (recvS i))) :
    (levAts L lv : sProp 𝕄) ⊢ MayWait (c : Thread nD τ) sm () (owe c l) :=
  MayOwe.of_cut (L := L) (lev := lv) (lvs sm) (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp]; exact le_rfl)
    (fun g u hg => by obtain ⟨i, hi, rfl⟩ := owe_pos hg; exact h i hi)

omit [FloatOps F] in
/-- The staging semaphores are below everything owed at the start. -/
theorem mayWait_stage (c : Dev nD) (q : DmaSem sig) (hq : lvs (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨l, rfl⟩ <;> exact Finset.mem_singleton_self _)
      (fun p hp => by rw [Finset.mem_singleton.mp hp]; exact hq.le)
      (fun g u hg => by
        rcases O₀_pos hg with ⟨i, rfl⟩ | ⟨l, rfl⟩
        · exact lt_of_lt_of_le (by decide) (lvs_recv i)
        · exact Nat.one_pos)
  · rw [MayWait_zero]; iintro -; iempintro

end Cert.KernelIdealProof
-- ==== Proof.KernelIdealSteps.lean ====
/-
  The steps of the all-gather, each stated once for every transfer: the signals and the wait of the entry
  barrier, starting a transfer, waiting for one to land, waiting for one to leave, loading a block and storing
  a block of the result.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What every device knows and what it holds -/

/-- The semaphores of one device: the barrier, the send ones, the receive ones. -/
abbrev CK : Type := Unit ⊕ (Fin 15 ⊕ Fin 15)
abbrev csem : CK → SemLoc sig
  | .inl _ => .reg barS
  | .inr (.inl i) => .dma (sendS i)
  | .inr (.inr i) => .dma (recvS i)
abbrev kcell (ck : Dev nD × CK) : GSem nD τ sig := ((ck.1 : Thread nD τ), csem ck.2)

variable (X : XT F) (W : WT F) (K : Dev nD × CK → ℕ)

/-- What is known of one semaphore: its invariant, and that it is in its round. -/
def known (ck : Dev nD × CK) : sProp 𝕄 := iprop(cellInv ER (Rd X) (K ck) (kcell ck) ∗ reached ER (kcell ck) 0)
instance known_persistent (ck) : BI.Persistent (known X K ck) := by unfold known; infer_instance
/-- What is known of all semaphores. -/
def records : sProp 𝕄 := bigSep Finset.univ (known X K)
instance records_persistent : BI.Persistent (records X K) := by unfold records; infer_instance

theorem known_of (ck : Dev nD × CK) : records X K ⊢ iprop(cellInv ER (Rd X) (K ck) (kcell ck) ∗ reached ER (kcell ck) 0) := by
  unfold records; exact bigSep_elim (Φ := known X K) (Finset.mem_univ ck)
theorem known_bar (c : Dev nD) : records X K ⊢ iprop(cellInv ER (Rd X) (K (c, .inl ())) (bcell c) ∗ reached ER (bcell c) 0) :=
  known_of X K (c, .inl ())
theorem known_send (c : Dev nD) (i : Fin 15) :
    records X K ⊢ iprop(cellInv ER (Rd X) (K (c, .inr (.inl i))) (scell c i) ∗ reached ER (scell c i) 0) := known_of X K (c, .inr (.inl i))
theorem known_recv (c : Dev nD) (i : Fin 15) :
    records X K ⊢ iprop(cellInv ER (Rd X) (K (c, .inr (.inr i))) (rcell c i) ∗ reached ER (rcell c i) 0) := known_of X K (c, .inr (.inr i))

/-- What device `c` owes, whatever it has waited on. -/
def ow (c : Dev nD) (O : CellTallies nD τ sig Unit) : sProp 𝕄 := iprop(∃ V, owes (c : Thread nD τ) O V)
/-- What device `c` needs to start transfer `i`, besides the rows. -/
def out (c : Dev nD) (i : Fin 15) : sProp 𝕄 :=
  iprop(dutyTok ER (scell c i) 0 0 ∗ dutyTok ER (rcell (pt (lk i) c) i) 0 0 ∗ atPos ER (scell c i) 0 ∅ 0)
/-- What device `c` holds while transfer `i` is under way. -/
def pend (c : Dev nD) (i : Fin 15) : sProp 𝕄 := iprop(cred (tallyAt (scell c i) () (N i)) ∗ atPos ER (scell c i) 0 ∅ 0)
/-- What device `c` needs to wait for transfer `i` to land. -/
def inn (c : Dev nD) (i : Fin 15) : sProp 𝕄 := iprop(cred (tallyAt (rcell c i) () (N i)) ∗ atPos ER (rcell c i) 0 ∅ 0)

/-- A program proved on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The entry barrier -/

/-- The signal to partner `l` hands it the rows its five transfers land in. -/
theorem step_signal (c n : Dev nD) (l : Fin 3) (hn : n = pt l c) (O : CellTallies nD τ sig Unit)
    {α : Type} {Q : α → sProp 𝕄} {k : PUnit → Prog (TpuEff nD τ sig (Elt F) Λ₀ .tc) α} :
    iprop(records X K ∗ ow c (O + tallyAt (bcell (pt l c)) () 1) ∗ dutyTok ER (bcell (pt l c)) 0 l ∗ barPay (pt l c) l)
      ⊢ iprop((ow c O -∗ WP c (k ⟨⟩) Q) -∗ WP c (.op (.semSignal (n : Thread nD τ) barS 1) k) Q) := by
  subst hn
  unfold ow
  iintro ⟨#Hrec, ⟨%V, HO⟩, Htok, Hpay⟩ Hk
  ihave Hkn := (known_bar X K (pt l c)) $$ Hrec
  icases Hkn with ⟨#Hinv, #Hr⟩
  iapply (Rounds.wp_signal 𝒱₀ ER (Rd X) (c : Thread nD τ) none (dst := (pt l c : Thread nD τ)) (κ := K (pt l c, .inl ())) (r := 0) (d := l)
    (by rw [duties_bar]; exact Finset.mem_univ _) (amount_bar X (pt l c) l) () O rfl) $$ [HO Htok Hpay]
  · isplitr; · iexact Hinv
    isplitl [HO]; · iexact HO
    isplitl [Htok]; · iexact Htok
    isplitl [Hpay]; · rw [payload_bar]; iexact Hpay
    iexact Hr
  iintro HO
  iapply Hk
  iexists V; iexact HO

/-- The wait at the entry barrier hands the device the rows its own fifteen transfers land in. -/
theorem step_barrier (c : Dev nD) {α : Type} {Q : α → sProp 𝕄} {k : PUnit → Prog (TpuEff nD τ sig (Elt F) Λ₀ .tc) α} :
    iprop(records X K ∗ levAts L lv ∗ cred (tallyAt (bcell c) () 3) ∗ atPos ER (bcell c) 0 ∅ 0 ∗ ow c (O₃ c))
      ⊢ iprop((((barPay c 0 ∗ barPay c 1 ∗ barPay c 2) ∗ semVal (bcell c) 0 ∗ ow c (O₃ c)) -∗ WP c (k ⟨⟩) Q)
          -∗ WP c (.op (.semWait barS 3) k) Q) := by
  unfold ow
  iintro ⟨#Hrec, #Hlev, Hc, Hat, ⟨%V, HO⟩⟩ Hk
  ihave Hkn := (known_bar X K c) $$ Hrec
  icases Hkn with ⟨#Hinv, #Hr⟩
  iapply (Rounds.wp_wait_rest_token 𝒱₀ ER (Rd X) (c : Thread nD τ) none (κ := K (c, .inl ()))
      (wpE_semWait_eq 𝒱₀ (c : Thread nD τ) none Set.univ) (Set.mem_univ _) () (O := O₃ c) (W := V) (R := 0) (m := 0) (T := ∅)
      (by rw [Nat.zero_add, expect_bar])) $$ [Hc HO Hat]
  · isplitr; · iexact Hinv
    isplitl [Hc]; · iexact Hc
    isplitl [HO]; · iexact HO
    isplitr; · iapply (mayWait_owe c (.reg barS) (List.finRange 15) (fun i _ => lt_of_lt_of_le (by decide) (lvs_recv i))) $$ Hlev
    iexact Hat
  rw [rest_bar]
  iintro ⟨HO, Hat, -, Hpay⟩
  imod (Rounds.cell_close ER (Rd X) (Set.mem_univ (K (c, .inl ()))) (fun h => h) (R := 0 + 1) (duties_later X (bcell c))) $$ [Hat] with Hz
  · isplitr; · iexact Hinv
    iexact Hat
  iapply Hk
  isplitl [Hpay]; · iexact Hpay
  isplitl [Hz]; · iexact Hz
  iexists _; iexact HO

/-! ## Starting a transfer -/

/-- Transfer `i`, from any rows that make the payment of the send semaphore, to the rows it lands in. -/
theorem step_send (c n : Dev nD) (i : Fin 15) (is : List (Fin 15)) (hn : n = pt (lk i) c) {s : Shape}
    {src : Memref sig .tc .vmem s .f32} {dst : Memref sig (Dev.tc n : Thread nD τ).2.kind .vmem s .f32}
    {sS rS : DmaSem sig} (hsS : sS = sendS i) (hrS : rS = recvS i)
    {hsc : dst.view.ref.isScScratch = false} {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    {q : PosShare TreeShare} {fs : Buf (Elt F) (src.view.loc (c : Thread nD τ))}
    (hN : dst.view.amount (.dma (recvS i)) = N i)
    (hpay₁ : (src.view.loc (c : Thread nD τ) ↦[src.view.set]{q} fs) ⊢ sendPay X c i)
    (hzn : (zn c i : sProp 𝕄) ⊢ iprop(∃ fd, dst.view.loc (n : Thread nD τ) ↦[dst.view.set]{fullShare} fd))
    (hpay₂ : ∀ fd, (dst.view.loc (n : Thread nD τ) ↦[dst.view.set]{fullShare} (dst.view.write (Elt F) fd (src.view.read (Elt F) fs) Finset.univ))
      ⊢ recvPay X n i) :
    iprop(records X K ∗ (src.view.loc (c : Thread nD τ) ↦[src.view.set]{q} fs) ∗ zn c i ∗ ow c (owe c (i :: is)) ∗ out c i)
      ⊢ iprop(((pend c i ∗ ow c (owe c is)) -∗ WP c (k ⟨⟩) Q)
          -∗ WP c (.op (.enqueueDma src (.remote (Dev.tc n : Thread nD τ) dst (.dma sS) hsc) (.dma rS) hsrc hdst hsem) k) Q) := by
  subst hn; subst hsS; subst hrS
  unfold ow out pend
  iintro ⟨#Hrec, Hs, Hz, ⟨%V, HO⟩, Hts, Htr, Hat⟩ Hk
  ihave Hkn := (known_send X K c i) $$ Hrec
  icases Hkn with ⟨#Hinv, #Hr⟩
  ihave Hkn' := (known_recv X K (pt (lk i) c) i) $$ Hrec
  icases Hkn' with ⟨#Hinv', #Hr'⟩
  ihave Hd := hzn $$ Hz
  icases Hd with ⟨%fd, Hd⟩
  iapply (Rounds.wp_send_pointsTo 𝒱₀ ER (Rd X) (c : Thread nD τ) none (κ₁ := K (c, .inr (.inl i))) (κ₂ := K (pt (lk i) c, .inr (.inr i)))
    (r₁ := 0) (r₂ := 0) (d₁ := 0) (d₂ := 0) (fd := fd)
    (by rw [duties_send]; exact Finset.mem_singleton_self _) (by rw [duties_recv]; exact Finset.mem_singleton_self _)
    () () (N i) hN (amount_send X c i 0) (amount_recv X (pt (lk i) c) i 0) (owe c is) rfl (W := V)
    (by rw [payload_send]; exact hpay₁) (by rw [payload_recv]; exact hpay₂ fd)) $$ [Hs Hd HO Hts Htr]
  · isplitr; · iexact Hinv
    isplitr; · iexact Hinv'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hc, HO⟩
  iapply Hk
  isplitl [Hc Hat]
  · isplitl [Hc]; · iexact Hc
    iexact Hat
  iexists V; iexact HO

/-- Rows of the gathering buffer, as a view. -/
theorem g_set (r n : ℕ) (inb) (hs) :
    (gM.slice (Rect.unit (s := S2048x2048) ![r, 0] ![n, 2048] inb) hs).view.set = rows (R := 2048) (C := 2048) r n :=
  (View.set_slice_whole cc0_scratch0 _).trans (rect_rows inb)
/-- Rows of the block of `x`, as a view. -/
theorem x_set (r n : ℕ) (inb) (hs) :
    (xM.slice (Rect.unit (s := S256x2048) ![r, 0] ![n, 2048] inb) hs).view.set = rows (R := 256) (C := 2048) r n :=
  (View.set_slice_whole cc0_stg0_0 _).trans (rect_rows inb)

/-- The amount of a transfer of whole rows. -/
theorem g_amount (i : Fin 15) (n : ℕ) (hn : n = ln i) (off : Fin 2 → ℕ) (inb) (hs) (sm : DmaSem sig) :
    (gM.slice (Rect.unit (s := S2048x2048) off ![n, 2048] inb) hs).view.amount (.dma sm) = N i := by
  subst hn; rfl

/-- The element of all of `x` at a row of block `d`. -/
theorem G_at (d : Dev nD) (j : S2048x2048.Idx) (x : S256x2048.Idx) (h0 : (j 0).val = 256 * d.val + (x 0).val) (h1 : (j 1).val = (x 1).val) :
    G X j = X d x := by
  have hx : (x 0).val < 256 := (x 0).isLt
  unfold G
  rw [show blkOf (j 0) = d from Fin.ext (by show (j 0).val / 256 = _; rw [h0]; omega)]
  congr 1
  funext a
  apply Fin.ext
  match a with
  | ⟨0, _⟩ => show (j 0).val % 256 = _; rw [h0]; exact (by omega : (256 * d.val + (x 0).val) % 256 = (x 0).val)
  | ⟨1, _⟩ => exact h1

/-- Of a buffer written with what another view reads of all of `x`, the rows written hold `x`'s. -/
theorem land_g (d : Dev nD) (r n : ℕ) (inb) (hs) (v : (⟨2, ![n, 2048]⟩ : Shape).Idx → Elt F .f32)
    (fd : Buf (Elt F) ((d : Thread nD τ).loc cc0_scratch0))
    (hv : ∀ x, v x = G X ((Rect.unit (s := S2048x2048) ![r, 0] ![n, 2048] inb).emb x)) :
    (((d : Thread nD τ).loc cc0_scratch0) ↦[rows r n]{fullShare}
        ((gM.slice (Rect.unit (s := S2048x2048) ![r, 0] ![n, 2048] inb) hs).view.write (Elt F) fd v Finset.univ) : sProp 𝕄)
      ⊢ gp X d r n fullShare := by
  unfold gp
  refine (fun h => by rw [h]) (pointsTo_congr (q := fullShare) fun j hj => ?_)
  rw [show (rows r n : Finset (Idx ((d : Thread nD τ).loc cc0_scratch0))) = _ from (g_set r n inb hs).symm] at hj
  obtain ⟨x, -, rfl⟩ := Finset.mem_map.mp hj
  exact (View.write_emb_of_mem _ _ (Finset.mem_univ x)).trans (hv x)

/-- Passing on rows of the gathering buffer. -/
theorem step_pass (c n : Dev nD) (i : Fin 15) (is : List (Fin 15)) (hi : 6 ≤ i.val) (hn : n = pt (lk i) c) {m : ℕ} (hm : m = ln i)
    {off off' : Fin 2 → ℕ} (hoff : off = ![sr c i, 0]) (hoff' : off' = ![sr c i, 0])
    {inb : ∀ a, off a + (![m, 2048] : Fin 2 → ℕ) a ≤ S2048x2048.size a} {inb' : ∀ a, off' a + (![m, 2048] : Fin 2 → ℕ) a ≤ S2048x2048.size a}
    {hs hs'} {sS rS : DmaSem sig} (hsS : sS = sendS i) (hrS : rS = recvS i)
    {hsc} {hsrc} {hdst}
    {hsem : DmaTarget.Typed .vmem (.dma rS) (.remote (Dev.tc n : Thread nD τ) (gM.slice (Rect.unit (s := S2048x2048) off' ![m, 2048] inb') hs') (.dma sS) hsc)}
    {α : Type} {Q : α → sProp 𝕄} {k : PUnit → Prog (TpuEff nD τ sig (Elt F) Λ₀ .tc) α} :
    iprop(records X K ∗ gp X c (sr c i) (ln i) fullShare.right ∗ zn c i ∗ ow c (owe c (i :: is)) ∗ out c i)
      ⊢ iprop(((pend c i ∗ ow c (owe c is)) -∗ WP c (k ⟨⟩) Q)
          -∗ WP c (.op (.enqueueDma (gM.slice (Rect.unit (s := S2048x2048) off ![m, 2048] inb) hs)
              (.remote (Dev.tc n : Thread nD τ) (gM.slice (Rect.unit (s := S2048x2048) off' ![m, 2048] inb') hs') (.dma sS) hsc) (.dma rS) hsrc hdst hsem) k) Q) := by
  subst hoff; subst hoff'; subst hm
  have h := step_send X K c n i is hn (src := gM.slice (Rect.unit (s := S2048x2048) ![sr c i, 0] ![ln i, 2048] inb) hs)
    (dst := gM.slice (Rect.unit (s := S2048x2048) ![sr c i, 0] ![ln i, 2048] inb') hs') hsS hrS (hsc := hsc) (hsrc := hsrc) (hdst := hdst)
    (hsem := hsem) (Q := Q) (k := k) (q := fullShare.right) (fs := G X) (g_amount i _ rfl _ _ _ _)
    (by rw [g_set]; unfold sendPay; rw [if_neg (by omega)]; exact BI.Entails.refl _)
    (by subst hn; rw [g_set]; exact BI.Entails.refl _)
    (by
      subst hn; intro fd; rw [g_set]; unfold recvPay; rw [rr_pt]
      exact land_g X _ _ _ inb' hs' _ fd fun x => rfl)
  rw [g_set] at h
  exact h

/-- The first six transfers carry 128 rows of the device's own block. -/
theorem own_facts (i : Fin 15) : i.val < 6 → ln i = 128 ∧ ks i = 0 ∧ ss i + 128 ≤ 256 := by revert i; decide +kernel

/-- Sending half of the device's own block of `x`. -/
theorem step_own (c n : Dev nD) (i : Fin 15) (is : List (Fin 15)) (hi : i.val < 6) (hn : n = pt (lk i) c)
    {r : ℕ} (hr : r = ss i) {off' : Fin 2 → ℕ} (hoff' : off' = ![sr c i, 0])
    {inb : ∀ a, (![r, 0] : Fin 2 → ℕ) a + (![128, 2048] : Fin 2 → ℕ) a ≤ S256x2048.size a} {inb' : ∀ a, off' a + (![128, 2048] : Fin 2 → ℕ) a ≤ S2048x2048.size a}
    {hs hs'} {sS rS : DmaSem sig} (hsS : sS = sendS i) (hrS : rS = recvS i)
    {hsc} {hsrc} {hdst}
    {hsem : DmaTarget.Typed .vmem (.dma rS) (.remote (Dev.tc n : Thread nD τ) (gM.slice (Rect.unit (s := S2048x2048) off' ![128, 2048] inb') hs') (.dma sS) hsc)}
    {α : Type} {Q : α → sProp 𝕄} {k : PUnit → Prog (TpuEff nD τ sig (Elt F) Λ₀ .tc) α} :
    iprop(records X K ∗ xp X c (ss i) 128 (xq (lk i)) ∗ zn c i ∗ ow c (owe c (i :: is)) ∗ out c i)
      ⊢ iprop(((pend c i ∗ ow c (owe c is)) -∗ WP c (k ⟨⟩) Q)
          -∗ WP c (.op (.enqueueDma (xM.slice (Rect.unit (s := S256x2048) ![r, 0] ![128, 2048] inb) hs)
              (.remote (Dev.tc n : Thread nD τ) (gM.slice (Rect.unit (s := S2048x2048) off' ![128, 2048] inb') hs') (.dma sS) hsc) (.dma rS) hsrc hdst hsem) k) Q) := by
  subst hoff'; subst hr
  obtain ⟨hl, hks, hss⟩ := own_facts i hi
  have h := step_send X K c n i is hn (src := xM.slice (Rect.unit (s := S256x2048) ![ss i, 0] ![128, 2048] inb) hs)
    (dst := gM.slice (Rect.unit (s := S2048x2048) ![sr c i, 0] ![128, 2048] inb') hs') hsS hrS (hsc := hsc) (hsrc := hsrc) (hdst := hdst)
    (hsem := hsem) (Q := Q) (k := k) (q := xq (lk i)) (fs := X c) (g_amount i _ hl.symm _ _ _ _)
    (by rw [x_set]; unfold sendPay; rw [if_pos hi]; exact BI.Entails.refl _)
    (by subst hn; unfold zn gj; rw [hl, g_set])
    (by
      subst hn; intro fd; rw [g_set]; unfold recvPay; rw [rr_pt, hl]
      refine land_g X _ _ _ inb' hs' _ fd fun x => ?_
      have hx : (x 0).val < 128 := (x 0).isLt
      have e0 : (((Rect.unit (s := S2048x2048) ![sr c i, 0] ![128, 2048] inb').emb x) 0).val = 256 * c.val + (ss i + (x 0).val) := by
        rw [Rect.emb_apply]
        show sr c i + 1 * (x 0).val = _
        unfold sr; rw [hks, dx_zero]; omega
      have e1 : (((Rect.unit (s := S2048x2048) ![sr c i, 0] ![128, 2048] inb').emb x) 1).val = (x 1).val := by
        rw [Rect.emb_apply]; show 0 + 1 * (x 1).val = _; omega
      refine (G_at X c _ _ (e0.trans ?_) (e1.trans ?_)).symm
      · show _ = 256 * c.val + (ss i + 1 * (x 0).val); omega
      · show _ = 0 + 1 * (x 1).val; omega)
  rw [x_set] at h
  exact h

/-! ## Waiting for a transfer -/

/-- Rows of the block that differs from the device's own in the bits of `k`, in the device's gathering buffer. -/
def gq (c : Dev nD) (k : Fin 8) (s n : ℕ) (q : PosShare TreeShare) : sProp 𝕄 := gp X c (256 * (dx k c).val + s) n q

/-- Waiting for transfer `i` to land: the rows are the device's, holding `x`'s. -/
theorem step_recv (c : Dev nD) (i : Fin 15) (is : List (Fin 15)) (hlv : ∀ j ∈ is, lvs (.dma (recvS i)) < lvs (.dma (recvS j)))
    {s : Shape} {rS : DmaSem sig} (hrS : rS = recvS i) {src dst : Memref sig .tc .vmem s .f32} {hsrc : src.view.WordExact} {hdst : dst.view.WordExact}
    (hN : dst.view.dmaCredit = N i)
    {α : Type} {Q : α → sProp 𝕄} {k : PUnit → Prog (TpuEff nD τ sig (Elt F) Λ₀ .tc) α} :
    iprop(records X K ∗ levAts L lv ∗ inn c i ∗ ow c (owe c is))
      ⊢ iprop(((gq X c (kk i) (ss i) (ln i) fullShare ∗ semVal (rcell c i) 0 ∗ ow c (owe c is)) -∗ WP c (k ⟨⟩) Q)
          -∗ WP c (.op (.waitDma2 rS src dst hsrc hdst) k) Q) := by
  subst hrS
  unfold ow inn
  iintro ⟨#Hrec, #Hlev, ⟨Hc, Hat⟩, ⟨%V, HO⟩⟩ Hk
  ihave Hkn := (known_recv X K c i) $$ Hrec
  icases Hkn with ⟨#Hinv, #Hr⟩
  iapply (Rounds.wp_wait_rest_token 𝒱₀ ER (Rd X) (c : Thread nD τ) none (κ := K (c, .inr (.inr i)))
      (wpE_waitDma2_eq 𝒱₀ (c : Thread nD τ) none Set.univ) (Set.mem_univ _) () (O := owe c is) (W := V) (R := 0) (m := 0) (T := ∅)
      (by rw [Nat.zero_add, expect_recv]; exact hN)) $$ [Hc HO Hat]
  · isplitr; · iexact Hinv
    isplitl [Hc]; · rw [hN]; iexact Hc
    isplitl [HO]; · iexact HO
    isplitr; · iapply (mayWait_owe c (.dma (recvS i)) is hlv) $$ Hlev
    iexact Hat
  rw [rest_recv]
  iintro ⟨HO, Hat, -, Hpay⟩
  imod (Rounds.cell_close ER (Rd X) (Set.mem_univ (K (c, .inr (.inr i)))) (fun h => h) (R := 0 + 1) (duties_later X (rcell c i))) $$ [Hat] with Hz
  · isplitr; · iexact Hinv
    iexact Hat
  iapply Hk
  isplitl [Hpay]; · unfold recvPay rr gq; iexact Hpay
  isplitl [Hz]; · iexact Hz
  iexists _; iexact HO

/-- Waiting for transfer `i` to leave: the rows lent are the device's again. -/
theorem step_left (c : Dev nD) (i : Fin 15)
    {s : Shape} {sS : DmaSem sig} (hsS : sS = sendS i) {src dst : Memref sig .tc .vmem s .f32} {hsrc : src.view.WordExact} {hdst : dst.view.WordExact}
    (hN : dst.view.dmaCredit = N i)
    {α : Type} {Q : α → sProp 𝕄} {k : PUnit → Prog (TpuEff nD τ sig (Elt F) Λ₀ .tc) α} :
    iprop(records X K ∗ pend c i ∗ ow c (owe c []))
      ⊢ iprop(((sendPay X c i ∗ semVal (scell c i) 0 ∗ ow c (owe c [])) -∗ WP c (k ⟨⟩) Q)
          -∗ WP c (.op (.waitDma2 sS src dst hsrc hdst) k) Q) := by
  subst hsS
  unfold ow pend
  iintro ⟨#Hrec, ⟨Hc, Hat⟩, ⟨%V, HO⟩⟩ Hk
  ihave Hkn := (known_send X K c i) $$ Hrec
  icases Hkn with ⟨#Hinv, #Hr⟩
  iapply (Rounds.wp_wait_rest_token 𝒱₀ ER (Rd X) (c : Thread nD τ) none (κ := K (c, .inr (.inl i)))
      (wpE_waitDma2_eq 𝒱₀ (c : Thread nD τ) none Set.univ) (Set.mem_univ _) () (O := owe c []) (W := V) (R := 0) (m := 0) (T := ∅)
      (by rw [Nat.zero_add, expect_send]; exact hN)) $$ [Hc HO Hat]
  · isplitr; · iexact Hinv
    isplitl [Hc]; · rw [hN]; iexact Hc
    isplitl [HO]; · iexact HO
    isplitr; · rw [show owe c [] = 0 from rfl, MayWait_zero]; iempintro
    iexact Hat
  rw [rest_send]
  iintro ⟨HO, Hat, -, Hpay⟩
  imod (Rounds.cell_close ER (Rd X) (Set.mem_univ (K (c, .inr (.inl i)))) (fun h => h) (R := 0 + 1) (duties_later X (scell c i))) $$ [Hat] with Hz
  · isplitr; · iexact Hinv
    iexact Hat
  iapply Hk
  isplitl [Hpay]; · iexact Hpay
  isplitl [Hz]; · iexact Hz
  iexists _; iexact HO

/-! ## Loads and stores -/

/-- What device `c` holds of its columns of `w`. -/
def wp_ (c : Dev nD) : sProp 𝕄 := ((c : Thread nD τ).loc cc0_stg1_0) ↦{fullShare} W c
/-- What device `c` holds of the result: the blocks of `bs` are done. -/
def outp (c : Dev nD) (bs : Finset (Dev nD)) : sProp 𝕄 :=
  iprop(∃ f : Buf (Elt F) ((c : Thread nD τ).loc cc0_stg2_0), ⌜∀ j : S2048x256.Idx, blkOf (j 0) ∈ bs → f j = outG X W c j⌝
    ∗ ((c : Thread nD τ).loc cc0_stg2_0) ↦{fullShare} f)

theorem hz : (![0, 0] : Fin 2 → Nat) = fun _ => 0 := funext fun a => by fin_cases a <;> rfl

section Mem
variable (c : Dev nD)

theorem step_load_x {α : Type} (q : PosShare TreeShare) {inb} {hl} {k : (S256x2048.Idx → Elt F .f32) → Prog (TpuEff nD τ sig (Elt F) Λ₀ .tc) α} {Q : α → sProp 𝕄} :
    xp X c 0 256 q ⊢ iprop((xp X c 0 256 q -∗ WP c (k (X c)) Q)
      -∗ WP c (.op (.load xM (Rect.unit (s := S256x2048) ![0, 0] ![256, 2048] inb).toLoadRect hl) k) Q) := by
  have h := wp_load (Γ := .empty) (defs := defs₀ (F := F)) 𝒱₀ (c : Thread nD τ) none Set.univ (m := xM)
    (r := (Rect.unit (s := S256x2048) ![0, 0] ![256, 2048] inb).toLoadRect) (hl := hl) (k := k) (Q := Q) (S := rows 0 256) (q := q) (f := X c)
    (fun j _ => (rows_all (R := 256) (C := 2048)).symm ▸ Finset.mem_univ j)
  have e : xM.view.readAt (Elt F) (Rect.unit (s := S256x2048) ![0, 0] ![256, 2048] inb).toLoadRect (X c) = X c :=
    Memref.readAt_unit_zero (Elt F) cc0_stg0_0 hz inb (X c)
  rw [e] at h
  exact h

theorem step_load_w {α : Type} {inb} {hl} {k : (S2048x256.Idx → Elt F .f32) → Prog (TpuEff nD τ sig (Elt F) Λ₀ .tc) α} {Q : α → sProp 𝕄} :
    wp_ W c ⊢ iprop((wp_ W c -∗ WP c (k (W c)) Q)
      -∗ WP c (.op (.load wM (Rect.unit (s := S2048x256) ![0, 0] ![2048, 256] inb).toLoadRect hl) k) Q) := by
  have h := wp_load (Γ := .empty) (defs := defs₀ (F := F)) 𝒱₀ (c : Thread nD τ) none Set.univ (m := wM)
    (r := (Rect.unit (s := S2048x256) ![0, 0] ![2048, 256] inb).toLoadRect) (hl := hl) (k := k) (Q := Q) (S := Finset.univ) (q := fullShare) (f := W c)
    (Finset.subset_univ _)
  have e : wM.view.readAt (Elt F) (Rect.unit (s := S2048x256) ![0, 0] ![2048, 256] inb).toLoadRect (W c) = W c :=
    Memref.readAt_unit_zero (Elt F) cc0_stg1_0 hz inb (W c)
  rw [e] at h
  exact h

/-- Loading a block of the gathering buffer reads that block of `x`. -/
theorem step_load_g {α : Type} (o : Fin 8) (q : PosShare TreeShare) {off : Fin 2 → ℕ} (hoff : off = ![256 * (dx o c).val, 0]) {inb} {hl}
    {k : (S256x2048.Idx → Elt F .f32) → Prog (TpuEff nD τ sig (Elt F) Λ₀ .tc) α} {Q : α → sProp 𝕄} :
    gq X c o 0 256 q ⊢ iprop((gq X c o 0 256 q -∗ WP c (k (X (dx o c))) Q)
      -∗ WP c (.op (.load gM (Rect.unit (s := S2048x2048) off ![256, 2048] inb).toLoadRect hl) k) Q) := by
  subst hoff
  have h := wp_load_rect (Γ := .empty) (defs := defs₀ (F := F)) 𝒱₀ (c : Thread nD τ) none Set.univ (m := gM)
    (r := Rect.unit (s := S2048x2048) ![256 * (dx o c).val, 0] ![256, 2048] inb) (hl := hl) (k := k) (Q := Q)
    (S := rows (256 * (dx o c).val + 0) 256) (q := q) (f := G X)
    (by rw [Nat.add_zero]; exact (g_set _ _ inb (fun _ => rfl)).subset)
  have e : (gM.access (Rect.unit (s := S2048x2048) ![256 * (dx o c).val, 0] ![256, 2048] inb) : View sig .tc _ _ _).read (Elt F) (G X) = X (dx o c) := by
    funext x
    refine G_at X (dx o c) _ x ?_ ?_
    · show 256 * (dx o c).val + 1 * (x 0).val = _; omega
    · show 0 + 1 * (x 1).val = _; omega
  rw [e] at h
  exact h

/-- What is loaded of the result before it is stored does not matter. -/
theorem step_load_out {α : Type} (bs : Finset (Dev nD)) {off : Fin 2 → ℕ} {inb} {hl} {k : (S256x256.Idx → Elt F .f32) → Prog (TpuEff nD τ sig (Elt F) Λ₀ .tc) α} {Q : α → sProp 𝕄} :
    outp X W c bs ⊢ iprop((∀ v, outp X W c bs -∗ WP c (k v) Q)
      -∗ WP c (.op (.load oM (Rect.unit (s := S2048x256) off ![256, 256] inb).toLoadRect hl) k) Q) := by
  unfold outp
  iintro ⟨%f, %hf, Hf⟩ Hk
  iapply (wp_load (Γ := .empty) (defs := defs₀ (F := F)) 𝒱₀ (c : Thread nD τ) none Set.univ (m := oM) (S := Finset.univ) (q := fullShare) (f := f)
    (Finset.subset_univ _)) $$ Hf
  iintro Hf
  iapply Hk
  iexists f
  isplitr; · ipureintro; exact hf
  iexact Hf

/-- The rows of block `o` of the result, as a view. -/
abbrev oView (o : Dev nD) (inb : ∀ a, (![256 * o.val, 0] : Fin 2 → ℕ) a + (![256, 256] : Fin 2 → ℕ) a ≤ S2048x256.size a) :
    View sig .tc .vmem ⟨2, ![256, 256]⟩ .f32 := oM.access (Rect.unit (s := S2048x256) ![256 * o.val, 0] ![256, 256] inb)

/-- After block `o` is stored, its rows hold the result. -/
theorem store_done (o : Dev nD) (inb) (f : S2048x256.Idx → Elt F .f32) (j : S2048x256.Idx) (hjo : blkOf (j 0) = o) :
    (oView o inb).write (Elt F) f (blkv (X o) (W c)) Finset.univ j = outG X W c j := by
  have hdiv : (j 0).val / 256 = o.val := congrArg Fin.val hjo
  have he : (oView o inb).emb (at2 (rowOf (j 0)) (j 1)) = j := by
    funext a
    apply Fin.ext
    match a with
    | ⟨0, _⟩ => show 256 * o.val + 1 * ((j 0).val % 256) = (j 0).val; omega
    | ⟨1, _⟩ => show 0 + 1 * (j 1).val = (j 1).val; omega
  have hw := View.write_emb_of_mem (Val := Elt F) (v := oView o inb) f (blkv (X o) (W c)) (Finset.mem_univ (at2 (rowOf (j 0)) (j 1)))
  refine (congrArg ((oView o inb).write (Elt F) f (blkv (X o) (W c)) Finset.univ) he.symm).trans (hw.trans ?_)
  unfold outG
  rw [hjo]
  rfl

/-- After block `o` is stored, the other rows are as before. -/
theorem store_rest (o : Dev nD) (inb) (f : S2048x256.Idx → Elt F .f32) (j : S2048x256.Idx) (hjo : blkOf (j 0) ≠ o) :
    (oView o inb).write (Elt F) f (blkv (X o) (W c)) Finset.univ j = f j := by
  refine View.write_of_not_mem (v := oView o inb) f (blkv (X o) (W c)) Finset.univ ?_
  intro hmem
  obtain ⟨x, -, hxj⟩ := Finset.mem_map.mp hmem
  apply hjo
  apply Fin.ext
  have h0 : (j 0).val = 256 * o.val + 1 * (x 0).val := by rw [← hxj]; rfl
  have hx0 : (x 0).val < 256 := (x 0).isLt
  show (j 0).val / 256 = o.val
  omega

/-- Storing block `o` of the result. -/
theorem step_store {α : Type} (bs : Finset (Dev nD)) (o : Dev nD) {off : Fin 2 → ℕ} (hoff : off = ![256 * o.val, 0]) {inb} {hx} {hm}
    {w : S256x256.Idx → Elt F .f32} (hw : w = blkv (X o) (W c)) {k : PUnit → Prog (TpuEff nD τ sig (Elt F) Λ₀ .tc) α} {Q : α → sProp 𝕄} :
    outp X W c bs ⊢ iprop((outp X W c (insert o bs) -∗ WP c (k ⟨⟩) Q)
      -∗ WP c (.op (.store oM (Rect.unit (s := S2048x256) off ![256, 256] inb) w Finset.univ hx hm) k) Q) := by
  subst hoff; subst hw
  unfold outp
  iintro ⟨%f, %hf, Hf⟩ Hk
  iapply (wp_store (Γ := .empty) (defs := defs₀ (F := F)) 𝒱₀ (c : Thread nD τ) none Set.univ (m := oM)
    (r := Rect.unit (s := S2048x256) ![256 * o.val, 0] ![256, 256] inb) (w := blkv (X o) (W c)) (Mk := Finset.univ) (hx := hx) (hm := hm)
    (k := k) (Q := Q) (S := Finset.univ) (f := f)
    (Finset.subset_univ _)) $$ Hf
  iintro Hf
  iapply Hk
  iexists _
  isplitr
  · ipureintro
    intro j hj
    by_cases hjo : blkOf (j 0) = o
    · exact store_done X W c o inb f j hjo
    · exact (store_rest X W c o inb f j hjo).trans (hf j ((Finset.mem_insert.mp hj).resolve_left hjo))
  iexact Hf

end Mem

end Cert.KernelIdealProof
-- ==== Proof.KernelIdealBody.lean ====
/-
  The body of the all-gather, one device at a time: each part of the kernel carries what a device holds from
  one state of the protocol to the next.
-/
module

public import proofs.«01_k».proof.Proof.KernelIdealSteps
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The printed devices and offsets -/

/-- The device each printed signal goes to. -/
theorem sig_dev (l : Fin 3) (c : Dev nD) : (![k0_dev1, k0_dev2, k0_dev3] l : Dev nD → ℕ) c = (pt l c).val := by
  revert l c; decide +kernel
/-- The device each printed transfer goes to. -/
theorem send_dev (i : Fin 15) (c : Dev nD) :
    (![k0_dev4, k0_dev5, k0_dev6, k0_dev7, k0_dev8, k0_dev9, k0_dev10, k0_dev11, k0_dev12, k0_dev13, k0_dev14, k0_dev15,
      k0_dev16, k0_dev17, k0_dev18] i : Dev nD → ℕ) c = (pt (lk i) c).val := by
  revert i c; decide +kernel
/-- The rows the first six transfers land in. -/
theorem off1_at (c : Dev nD) (i : Fin 15) : i.val < 6 → k0_off1 c (BitVec.ofNat 32 (ss i)) = ![sr c i, 0] := by
  revert c i; decide +kernel
/-- The rows the next six transfers carry. -/
theorem off3_at (c : Dev nD) (i : Fin 15) : 6 ≤ i.val → i.val < 12 →
    k0_off3 c (BitVec.ofNat 32 (ks i).val) (BitVec.ofNat 32 (ss i)) = ![sr c i, 0] := by
  revert c i; decide +kernel
/-- The rows transfers 12 and 13 carry. -/
theorem off6_at (c : Dev nD) (i : Fin 15) : 12 ≤ i.val → i.val < 14 →
    k0_off6 c (BitVec.ofNat 32 (ks i).val) (BitVec.ofNat 32 (ss i)) = ![sr c i, 0] := by
  revert c i; decide +kernel
/-- The rows the last transfer carries. -/
theorem off7_at (c : Dev nD) : k0_off7 c = ![sr c 14, 0] := by
  revert c; decide +kernel
/-- The block of the gathering buffer each product reads. -/
theorem off4_at (c : Dev nD) (k : Fin 8) : 1 ≤ k.val → k0_off4 c (BitVec.ofNat 32 k.val) = ![256 * (dx k c).val, 0] := by
  revert c k; decide +kernel
/-- The block of the result each product is stored in. -/
theorem off5_at (c : Dev nD) (k : Fin 8) : 1 ≤ k.val → k0_off5 c (BitVec.ofNat 32 k.val) = ![256 * (dx k c).val, 0] := by
  revert c k; decide +kernel

variable (X : XT F) (W : WT F) (K : Dev nD × CK → ℕ)

/-! ## The steps, by the numbers of the table -/

/-- What device `c` still owes when `t` of its transfers are started. -/
def owN (c : Dev nD) (t : ℕ) : sProp 𝕄 := ow c (owe c ((List.finRange 15).drop t))

theorem drop_at (i : Fin 15) : (List.finRange 15).drop i.val = i :: (List.finRange 15).drop (i.val + 1) := by
  revert i; decide +kernel

theorem owN_zero (c : Dev nD) : (ow c (O₃ c) : sProp 𝕄) ⊢ owN c 0 := BI.Entails.refl _

theorem owN_at (c : Dev nD) (i : Fin 15) : (owN c i.val : sProp 𝕄) = ow c (owe c (i :: (List.finRange 15).drop (i.val + 1))) := by
  unfold owN; rw [drop_at]

/-- Sending half of the device's own block. -/
theorem send_own (c n : Dev nD) (i : Fin 15) {t u : ℕ} (ht : t = i.val) (hu : u = i.val + 1) (hi : i.val < 6) (hn : n.val = (pt (lk i) c).val)
    {r : ℕ} (hr : r = ss i) {l : Fin 3} (hl : l = lk i) {off' : Fin 2 → ℕ} (hoff' : off' = ![sr c i, 0])
    {inb : ∀ a, (![r, 0] : Fin 2 → ℕ) a + (![128, 2048] : Fin 2 → ℕ) a ≤ S256x2048.size a} {inb' : ∀ a, off' a + (![128, 2048] : Fin 2 → ℕ) a ≤ S2048x2048.size a}
    {hs hs'} {sS rS : DmaSem sig} (hsS : sS = sendS i) (hrS : rS = recvS i)
    {hsc} {hsrc} {hdst}
    {hsem : DmaTarget.Typed .vmem (.dma rS) (.remote (Dev.tc n : Thread nD τ) (gM.slice (Rect.unit (s := S2048x2048) off' ![128, 2048] inb') hs') (.dma sS) hsc)}
    {α : Type} {Q : α → sProp 𝕄} {k : PUnit → Prog (TpuEff nD τ sig (Elt F) Λ₀ .tc) α} :
    iprop(records X K ∗ xp X c r 128 (xq l) ∗ zn c i ∗ owN c t ∗ out c i)
      ⊢ iprop(((pend c i ∗ owN c u) -∗ WP c (k ⟨⟩) Q)
          -∗ WP c (.op (.enqueueDma (xM.slice (Rect.unit (s := S256x2048) ![r, 0] ![128, 2048] inb) hs)
              (.remote (Dev.tc n : Thread nD τ) (gM.slice (Rect.unit (s := S2048x2048) off' ![128, 2048] inb') hs') (.dma sS) hsc) (.dma rS) hsrc hdst hsem) k) Q) := by
  subst ht; subst hu; subst hl; subst hr
  rw [owN_at]
  exact step_own X K c n i _ hi (Fin.ext hn) rfl hoff' hsS hrS

/-- Passing on rows of block `o`, `m` from row `s` of it. -/
theorem send_pass (c n : Dev nD) (i : Fin 15) {t u : ℕ} (ht : t = i.val) (hu : u = i.val + 1) (hi : 6 ≤ i.val) (hn : n.val = (pt (lk i) c).val)
    {o : Fin 8} {s m : ℕ} (ho : o = ks i) (hs₀ : s = ss i) (hm : m = ln i)
    {off off' : Fin 2 → ℕ} (hoff : off = ![sr c i, 0]) (hoff' : off' = ![sr c i, 0])
    {inb : ∀ a, off a + (![m, 2048] : Fin 2 → ℕ) a ≤ S2048x2048.size a} {inb' : ∀ a, off' a + (![m, 2048] : Fin 2 → ℕ) a ≤ S2048x2048.size a}
    {hs hs'} {sS rS : DmaSem sig} (hsS : sS = sendS i) (hrS : rS = recvS i)
    {hsc} {hsrc} {hdst}
    {hsem : DmaTarget.Typed .vmem (.dma rS) (.remote (Dev.tc n : Thread nD τ) (gM.slice (Rect.unit (s := S2048x2048) off' ![m, 2048] inb') hs') (.dma sS) hsc)}
    {α : Type} {Q : α → sProp 𝕄} {k : PUnit → Prog (TpuEff nD τ sig (Elt F) Λ₀ .tc) α} :
    iprop(records X K ∗ gq X c o s m fullShare.right ∗ zn c i ∗ owN c t ∗ out c i)
      ⊢ iprop(((pend c i ∗ owN c u) -∗ WP c (k ⟨⟩) Q)
          -∗ WP c (.op (.enqueueDma (gM.slice (Rect.unit (s := S2048x2048) off ![m, 2048] inb) hs)
              (.remote (Dev.tc n : Thread nD τ) (gM.slice (Rect.unit (s := S2048x2048) off' ![m, 2048] inb') hs') (.dma sS) hsc) (.dma rS) hsrc hdst hsem) k) Q) := by
  subst ht; subst hu; subst ho; subst hs₀; subst hm
  rw [owN_at]
  exact step_pass X K c n i _ hi (Fin.ext hn) rfl hoff hoff' hsS hrS

/-- Waiting for transfer `i` to land: `m` rows of block `o`, from row `s` of it, are the device's. -/
theorem recvd (c : Dev nD) (i : Fin 15) {t : ℕ} (hlv : ∀ j ∈ (List.finRange 15).drop t, lvs (.dma (recvS i)) < lvs (.dma (recvS j)))
    {o : Fin 8} {s m : ℕ} (ho : o = kk i) (hs₀ : s = ss i) (hm : m = ln i)
    {sh : Shape} {rS : DmaSem sig} (hrS : rS = recvS i) {src dst : Memref sig .tc .vmem sh .f32} {hsrc : src.view.WordExact} {hdst : dst.view.WordExact}
    (hN : dst.view.dmaCredit = N i)
    {α : Type} {Q : α → sProp 𝕄} {k : PUnit → Prog (TpuEff nD τ sig (Elt F) Λ₀ .tc) α} :
    iprop(records X K ∗ levAts L lv ∗ inn c i ∗ owN c t)
      ⊢ iprop(((gq X c o s m fullShare ∗ semVal (rcell c i) 0 ∗ owN c t) -∗ WP c (k ⟨⟩) Q)
          -∗ WP c (.op (.waitDma2 rS src dst hsrc hdst) k) Q) := by
  subst ho; subst hs₀; subst hm
  exact step_recv X K c i _ hlv hrS hN

/-- Waiting for one of the first six transfers to leave. -/
theorem left_own (c : Dev nD) (i : Fin 15) (hi : i.val < 6) {s : ℕ} {l : Fin 3} (hs₀ : s = ss i) (hl : l = lk i)
    {sh : Shape} {sS : DmaSem sig} (hsS : sS = sendS i) {src dst : Memref sig .tc .vmem sh .f32} {hsrc : src.view.WordExact} {hdst : dst.view.WordExact}
    (hN : dst.view.dmaCredit = N i)
    {α : Type} {Q : α → sProp 𝕄} {k : PUnit → Prog (TpuEff nD τ sig (Elt F) Λ₀ .tc) α} :
    iprop(records X K ∗ pend c i ∗ owN c 15)
      ⊢ iprop(((xp X c s 128 (xq l) ∗ semVal (scell c i) 0 ∗ owN c 15) -∗ WP c (k ⟨⟩) Q)
          -∗ WP c (.op (.waitDma2 sS src dst hsrc hdst) k) Q) := by
  subst hs₀; subst hl
  have h := step_left X K c i hsS (src := src) (dst := dst) (hsrc := hsrc) (hdst := hdst) hN (Q := Q) (k := k)
  unfold sendPay at h
  rw [if_pos hi] at h
  exact h

/-- Waiting for one of the other transfers to leave. -/
theorem left_pass (c : Dev nD) (i : Fin 15) (hi : 6 ≤ i.val) {o : Fin 8} {s m : ℕ} (ho : o = ks i) (hs₀ : s = ss i) (hm : m = ln i)
    {sh : Shape} {sS : DmaSem sig} (hsS : sS = sendS i) {src dst : Memref sig .tc .vmem sh .f32} {hsrc : src.view.WordExact} {hdst : dst.view.WordExact}
    (hN : dst.view.dmaCredit = N i)
    {α : Type} {Q : α → sProp 𝕄} {k : PUnit → Prog (TpuEff nD τ sig (Elt F) Λ₀ .tc) α} :
    iprop(records X K ∗ pend c i ∗ owN c 15)
      ⊢ iprop(((gq X c o s m fullShare.right ∗ semVal (scell c i) 0 ∗ owN c 15) -∗ WP c (k ⟨⟩) Q)
          -∗ WP c (.op (.waitDma2 sS src dst hsrc hdst) k) Q) := by
  subst ho; subst hs₀; subst hm
  have h := step_left X K c i hsS (src := src) (dst := dst) (hsrc := hsrc) (hdst := hdst) hN (Q := Q) (k := k)
  unfold sendPay at h
  rw [if_neg (Nat.not_lt.mpr hi)] at h
  exact h

/-- Rows held of a block, cut at a row. -/
theorem gq_add (c : Dev nD) (o : Fin 8) (s n m : ℕ) (q : PosShare TreeShare) {t s' : ℕ} (ht : t = n + m) (hs : s' = s + n) :
    gq X c o s t q = iprop(gq X c o s n q ∗ gq X c o s' m q) := by
  subst ht; subst hs
  unfold gq
  rw [gp_add, Nat.add_assoc]
theorem gq_cut (c : Dev nD) (o : Fin 8) (s n m : ℕ) (q : PosShare TreeShare) {t s' : ℕ} (ht : t = n + m) (hs : s' = s + n) :
    gq X c o s t q ⊢ iprop(gq X c o s n q ∗ gq X c o s' m q) := by rw [gq_add X c o s n m q ht hs]
theorem gq_glue (c : Dev nD) (o : Fin 8) (s n m : ℕ) (q : PosShare TreeShare) {t s' : ℕ} (ht : t = n + m) (hs : s' = s + n) :
    iprop(gq X c o s n q ∗ gq X c o s' m q) ⊢ gq X c o s t q := by rw [gq_add X c o s n m q ht hs]
/-- Rows held in full: one half of the share is kept, the other is lent. -/
theorem gq_lend (c : Dev nD) (o : Fin 8) (s n : ℕ) :
    gq X c o s n fullShare ⊢ iprop(gq X c o s n fullShare.left ∗ gq X c o s n fullShare.right) := by
  unfold gq; rw [← gp_half X c _ n fullShare]
theorem gq_back (c : Dev nD) (o : Fin 8) (s n : ℕ) :
    iprop(gq X c o s n fullShare.left ∗ gq X c o s n fullShare.right) ⊢ gq X c o s n fullShare := by
  unfold gq; rw [← gp_half X c _ n fullShare]

/-- The three payments of the barrier, transfer by transfer. -/
theorem barPays (c : Dev nD) : (iprop(barPay c 0 ∗ barPay c 1 ∗ barPay c 2) : sProp 𝕄)
    ⊢ iprop((zn c 0 ∗ zn c 3 ∗ zn c 6 ∗ zn c 9 ∗ zn c 12) ∗ (zn c 1 ∗ zn c 4 ∗ zn c 7 ∗ zn c 10 ∗ zn c 13)
        ∗ (zn c 2 ∗ zn c 5 ∗ zn c 8 ∗ zn c 11 ∗ zn c 14)) := BI.Entails.refl _

/-- The product of the device's own block is computed as the others are. -/
theorem pay1_eq (x : S256x2048.Idx → Elt F .f32) (w : S2048x256.Idx → Elt F .f32) : k0_pay1 x w = blkv x w :=
  congrArg (fun y => k0_pay5 y w) (shapeCast_self x shapeCasts_S256x2048_S256x2048)

/-! ## The parts of the kernel -/

section Parts
variable (c : Dev nD)

/-- The entry barrier, and the first transfer. -/
theorem part1 {α : Type} {Q : α → sProp 𝕄} {k : _ → Prog (TpuEff nD τ sig (Elt F) Λ₀ .tc) α} {h0 h1 h2 h3} :
    iprop(records X K ∗ levAts L lv ∗ ow c (O₀ c)
        ∗ (dutyTok ER (bcell (pt 0 c)) 0 0 ∗ dutyTok ER (bcell (pt 1 c)) 0 1 ∗ dutyTok ER (bcell (pt 2 c)) 0 2)
        ∗ (barPay (pt 0 c) 0 ∗ barPay (pt 1 c) 1 ∗ barPay (pt 2 c) 2)
        ∗ cred (tallyAt (bcell c) () 3) ∗ atPos ER (bcell c) 0 ∅ 0 ∗ xp X c 0 128 (xq 0) ∗ out c 0)
      ⊢ iprop((∀ v2 v3 v4 v5, (owN c 1 ∗ pend c 0 ∗ semVal (bcell c) 0
            ∗ (zn c 3 ∗ zn c 6 ∗ zn c 9 ∗ zn c 12) ∗ (zn c 1 ∗ zn c 4 ∗ zn c 7 ∗ zn c 10 ∗ zn c 13)
            ∗ (zn c 2 ∗ zn c 5 ∗ zn c 8 ∗ zn c 11 ∗ zn c 14)) -∗ WP c (k ⟨c, v2, v3, v4, v5⟩) Q)
          -∗ WP c (k0_part1 (F := F) xM h0 wM h1 oM h2 gM h3 cc0_scratch1 cc0_scratch2 >>= k) Q) := by
  rw [k0_part1_eq_skeleton]
  unfold k0_part1_skel
  simp only [semSignalWord, semWaitWord, Prog.lift, Prog.bind_op, Prog.bind_ret, Prog.pure_eq_ret, wp_deviceId]
  iintro ⟨#Hrec, #Hlev, HO, ⟨Ht0, Ht1, Ht2⟩, ⟨Hp0, Hp1, Hp2⟩, Hc, Hat, Hx, Hout⟩ Hk
  iapply (step_signal X K c _ 0 (Fin.ext (sig_dev 0 c)) (O₁ c)) $$ [$Hrec $HO $Ht0 $Hp0]
  iintro HO
  iapply (step_signal X K c _ 1 (Fin.ext (sig_dev 1 c)) (O₂ c)) $$ [$Hrec $HO $Ht1 $Hp1]
  iintro HO
  iapply (step_signal X K c _ 2 (Fin.ext (sig_dev 2 c)) (O₃ c)) $$ [$Hrec $HO $Ht2 $Hp2]
  iintro HO
  iapply (step_barrier X K c) $$ [$Hrec $Hlev $Hc $Hat $HO]
  iintro ⟨Hp, Hb, HO⟩
  ihave Hz := (barPays c) $$ Hp
  icases Hz with ⟨⟨Hz0, Hz3⟩, Hz1, Hz2⟩
  ihave HO := (owN_zero c) $$ HO
  iapply (send_own X K c _ 0 (t := 0) (u := 1) rfl rfl (by decide) (send_dev 0 c) rfl (l := 0) rfl (off1_at c 0 (by decide)) rfl rfl) $$ [$Hrec $Hx $Hz0 $HO $Hout]
  iintro ⟨Hpend, HO⟩
  iapply Hk
  iframe ∗

/-- Transfers 1, 2 and 3 start. -/
theorem part2 {α : Type} {Q : α → sProp 𝕄} {k : _ → Prog (TpuEff nD τ sig (Elt F) Λ₀ .tc) α} {h0 h1 h2 h3} {v2 v3 v4 v5} :
    iprop(records X K ∗ levAts L lv ∗ owN c 1 ∗ (xp X c 0 128 (xq 1) ∗ zn c 1 ∗ out c 1) ∗ (xp X c 0 128 (xq 2) ∗ zn c 2 ∗ out c 2) ∗ xp X c 128 128 (xq 0) ∗ zn c 3 ∗ out c 3)
      ⊢ iprop(((owN c 4 ∗ pend c 1 ∗ pend c 2 ∗ pend c 3) -∗ WP c (k ⟨⟩) Q)
          -∗ WP c (k0_part2 (F := F) xM h0 wM h1 oM h2 gM h3 cc0_scratch1 cc0_scratch2 c v2 v3 v4 v5 >>= k) Q) := by
  rw [k0_part2_eq_skeleton]
  unfold k0_part2_skel
  simp only [Prog.lift, Prog.bind_op, Prog.bind_ret, Prog.pure_eq_ret]
  iintro ⟨#Hrec, #Hlev, HO, ⟨Hx1, Hz1, Hout1⟩, ⟨Hx2, Hz2, Hout2⟩, Hx3, Hz3, Hout3⟩ Hk
  iapply (send_own X K c _ 1 (t := 1) (u := 2) rfl rfl (by decide) (send_dev 1 c) rfl (l := 1) rfl (off1_at c 1 (by decide)) rfl rfl) $$ [$Hrec $Hx1 $Hz1 $HO $Hout1]
  iintro ⟨Hp1, HO⟩
  iapply (send_own X K c _ 2 (t := 2) (u := 3) rfl rfl (by decide) (send_dev 2 c) rfl (l := 2) rfl (off1_at c 2 (by decide)) rfl rfl) $$ [$Hrec $Hx2 $Hz2 $HO $Hout2]
  iintro ⟨Hp2, HO⟩
  iapply (send_own X K c _ 3 (t := 3) (u := 4) rfl rfl (by decide) (send_dev 3 c) rfl (l := 0) rfl (off1_at c 3 (by decide)) rfl rfl) $$ [$Hrec $Hx3 $Hz3 $HO $Hout3]
  iintro ⟨Hp3, HO⟩
  iapply Hk
  iframe ∗

/-- Transfers 4 and 5 start; the device's own block of the result is stored. -/
theorem part3 {α : Type} {Q : α → sProp 𝕄} {k : _ → Prog (TpuEff nD τ sig (Elt F) Λ₀ .tc) α} {h0 h1 h2 h3} {v2 v4 v5} :
    iprop(records X K ∗ levAts L lv ∗ owN c 4 ∗ (xp X c 128 128 (xq 1) ∗ zn c 4 ∗ out c 4) ∗ (xp X c 128 128 (xq 2) ∗ zn c 5 ∗ out c 5) ∗ xp X c 0 256 fullShare.left ∗ wp_ W c ∗ outp X W c ∅)
      ⊢ iprop((∀ a b d, (owN c 6 ∗ pend c 4 ∗ pend c 5 ∗ xp X c 0 256 fullShare.left ∗ wp_ W c ∗ outp X W c (insert c ∅)) -∗ WP c (k ⟨a, b, d⟩) Q)
          -∗ WP c (k0_part3 (F := F) xM h0 wM h1 oM h2 gM h3 cc0_scratch1 cc0_scratch2 c v2 v4 v5 >>= k) Q) := by
  rw [k0_part3_eq_skeleton]
  unfold k0_part3_skel
  simp only [Prog.lift, Prog.bind_op, Prog.bind_ret, Prog.pure_eq_ret]
  iintro ⟨#Hrec, #Hlev, HO, ⟨Hx4, Hz4, Hout4⟩, ⟨Hx5, Hz5, Hout5⟩, Hx, Hw, Ho⟩ Hk
  iapply (send_own X K c _ 4 (t := 4) (u := 5) rfl rfl (by decide) (send_dev 4 c) rfl (l := 1) rfl (off1_at c 4 (by decide)) rfl rfl) $$ [$Hrec $Hx4 $Hz4 $HO $Hout4]
  iintro ⟨Hp4, HO⟩
  iapply (send_own X K c _ 5 (t := 5) (u := 6) rfl rfl (by decide) (send_dev 5 c) rfl (l := 2) rfl (off1_at c 5 (by decide)) rfl rfl) $$ [$Hrec $Hx5 $Hz5 $HO $Hout5]
  iintro ⟨Hp5, HO⟩
  iapply (step_load_x X c fullShare.left) $$ Hx
  iintro Hx
  iapply (step_load_w W c) $$ Hw
  iintro Hw
  iapply (step_load_out X W c ∅) $$ Ho
  iintro %v Ho
  iapply (step_store X W c ∅ c (k0_off2_eq c) (pay1_eq _ _)) $$ Ho
  iintro Ho
  iapply Hk
  iframe ∗

/-- Halves 1 and 2 of the partners' blocks land; the first is passed on. -/
theorem part4 {α : Type} {Q : α → sProp 𝕄} {k : _ → Prog (TpuEff nD τ sig (Elt F) Λ₀ .tc) α} {h0 h1 h2 h3} {v3 v4 v5 v83 v84} :
    iprop(records X K ∗ levAts L lv ∗ owN c 6 ∗ (inn c 1 ∗ inn c 2) ∗ zn c 6 ∗ out c 6)
      ⊢ iprop(((owN c 7 ∗ gq X c 3 0 128 fullShare.left ∗ gq X c 4 0 128 fullShare ∗ pend c 6 ∗ semVal (rcell c 1) 0 ∗ semVal (rcell c 2) 0) -∗ WP c (k ⟨⟩) Q)
          -∗ WP c (k0_part4 (F := F) xM h0 wM h1 oM h2 gM h3 cc0_scratch1 cc0_scratch2 c v3 v4 v5 v83 v84 >>= k) Q) := by
  rw [k0_part4_eq_skeleton]
  unfold k0_part4_skel
  simp only [Prog.lift, Prog.bind_op, Prog.bind_ret, Prog.pure_eq_ret]
  iintro ⟨#Hrec, #Hlev, HO, ⟨Hin1, Hin2⟩, Hz6, Hout6⟩ Hk
  iapply (recvd X K c 1 (t := 6) (by decide) (o := 3) (s := 0) (m := 128) rfl rfl rfl rfl rfl) $$ [$Hrec $Hlev $Hin1 $HO]
  iintro ⟨Hg3, Hv1, HO⟩
  ihave Hh := (gq_lend X c 3 0 128) $$ Hg3
  icases Hh with ⟨Hl3, Hr3⟩
  iapply (send_pass X K c _ 6 (t := 6) (u := 7) rfl rfl (by decide) (send_dev 6 c) (o := 3) (s := 0) (m := 128) rfl rfl rfl
    (off3_at c 6 (by decide) (by decide)) (off3_at c 6 (by decide) (by decide)) rfl rfl) $$ [$Hrec $Hr3 $Hz6 $HO $Hout6]
  iintro ⟨Hp6, HO⟩
  iapply (recvd X K c 2 (t := 7) (by decide) (o := 4) (s := 0) (m := 128) rfl rfl rfl rfl rfl) $$ [$Hrec $Hlev $Hin2 $HO]
  iintro ⟨Hg4, Hv2, HO⟩
  iapply Hk
  iframe ∗

/-- The second is passed on; half 0 lands and is passed on. -/
theorem part5 {α : Type} {Q : α → sProp 𝕄} {k : _ → Prog (TpuEff nD τ sig (Elt F) Λ₀ .tc) α} {h0 h1 h2 h3} {v3 v4 v5 v85} :
    iprop(records X K ∗ levAts L lv ∗ owN c 7 ∗ gq X c 4 0 128 fullShare ∗ inn c 0 ∗ (zn c 7 ∗ out c 7) ∗ zn c 8 ∗ out c 8)
      ⊢ iprop(((owN c 9 ∗ gq X c 4 0 128 fullShare.left ∗ gq X c 1 0 128 fullShare.left ∗ (pend c 7 ∗ pend c 8) ∗ semVal (rcell c 0) 0) -∗ WP c (k ⟨⟩) Q)
          -∗ WP c (k0_part5 (F := F) xM h0 wM h1 oM h2 gM h3 cc0_scratch1 cc0_scratch2 c v3 v4 v5 v85 >>= k) Q) := by
  rw [k0_part5_eq_skeleton]
  unfold k0_part5_skel
  simp only [Prog.lift, Prog.bind_op, Prog.bind_ret, Prog.pure_eq_ret]
  iintro ⟨#Hrec, #Hlev, HO, Hg4, Hin0, ⟨Hz7, Hout7⟩, Hz8, Hout8⟩ Hk
  ihave Hh := (gq_lend X c 4 0 128) $$ Hg4
  icases Hh with ⟨Hl4, Hr4⟩
  iapply (send_pass X K c _ 7 (t := 7) (u := 8) rfl rfl (by decide) (send_dev 7 c) (o := 4) (s := 0) (m := 128) rfl rfl rfl
    (off3_at c 7 (by decide) (by decide)) (off3_at c 7 (by decide) (by decide)) rfl rfl) $$ [$Hrec $Hr4 $Hz7 $HO $Hout7]
  iintro ⟨Hp7, HO⟩
  iapply (recvd X K c 0 (t := 8) (by decide) (o := 1) (s := 0) (m := 128) rfl rfl rfl rfl rfl) $$ [$Hrec $Hlev $Hin0 $HO]
  iintro ⟨Hg1, Hv0, HO⟩
  ihave Hh := (gq_lend X c 1 0 128) $$ Hg1
  icases Hh with ⟨Hl1, Hr1⟩
  iapply (send_pass X K c _ 8 (t := 8) (u := 9) rfl rfl (by decide) (send_dev 8 c) (o := 1) (s := 0) (m := 128) rfl rfl rfl
    (off3_at c 8 (by decide) (by decide)) (off3_at c 8 (by decide) (by decide)) rfl rfl) $$ [$Hrec $Hr1 $Hz8 $HO $Hout8]
  iintro ⟨Hp8, HO⟩
  iapply Hk
  iframe ∗

/-- Halves 4 and 5 land; the first is passed on. -/
theorem part6 {α : Type} {Q : α → sProp 𝕄} {k : _ → Prog (TpuEff nD τ sig (Elt F) Λ₀ .tc) α} {h0 h1 h2 h3} {v3 v4 v5 v83 v84} :
    iprop(records X K ∗ levAts L lv ∗ owN c 9 ∗ (inn c 4 ∗ inn c 5) ∗ zn c 9 ∗ out c 9)
      ⊢ iprop(((owN c 10 ∗ gq X c 3 128 128 fullShare.left ∗ gq X c 4 128 128 fullShare ∗ pend c 9 ∗ semVal (rcell c 4) 0 ∗ semVal (rcell c 5) 0) -∗ WP c (k ⟨⟩) Q)
          -∗ WP c (k0_part6 (F := F) xM h0 wM h1 oM h2 gM h3 cc0_scratch1 cc0_scratch2 c v3 v4 v5 v83 v84 >>= k) Q) := by
  rw [k0_part6_eq_skeleton]
  unfold k0_part6_skel
  simp only [Prog.lift, Prog.bind_op, Prog.bind_ret, Prog.pure_eq_ret]
  iintro ⟨#Hrec, #Hlev, HO, ⟨Hin4, Hin5⟩, Hz9, Hout9⟩ Hk
  iapply (recvd X K c 4 (t := 9) (by decide) (o := 3) (s := 128) (m := 128) rfl rfl rfl rfl rfl) $$ [$Hrec $Hlev $Hin4 $HO]
  iintro ⟨Hg3, Hv4, HO⟩
  ihave Hh := (gq_lend X c 3 128 128) $$ Hg3
  icases Hh with ⟨Hl3, Hr3⟩
  iapply (send_pass X K c _ 9 (t := 9) (u := 10) rfl rfl (by decide) (send_dev 9 c) (o := 3) (s := 128) (m := 128) rfl rfl rfl
    (off3_at c 9 (by decide) (by decide)) (off3_at c 9 (by decide) (by decide)) rfl rfl) $$ [$Hrec $Hr3 $Hz9 $HO $Hout9]
  iintro ⟨Hp9, HO⟩
  iapply (recvd X K c 5 (t := 10) (by decide) (o := 4) (s := 128) (m := 128) rfl rfl rfl rfl rfl) $$ [$Hrec $Hlev $Hin5 $HO]
  iintro ⟨Hg4, Hv5, HO⟩
  iapply Hk
  iframe ∗

/-- The second is passed on; half 3 lands and is passed on; the first operands of the next block are read. -/
theorem part7 {α : Type} {Q : α → sProp 𝕄} {k : _ → Prog (TpuEff nD τ sig (Elt F) Λ₀ .tc) α} {h0 h1 h2 h3} {v2 v3 v5 v85} :
    iprop(records X K ∗ levAts L lv ∗ owN c 10 ∗ gq X c 4 128 128 fullShare ∗ inn c 3 ∗ (zn c 10 ∗ out c 10) ∗ (zn c 11 ∗ out c 11) ∗ gq X c 1 0 128 fullShare.left ∗ wp_ W c)
      ⊢ iprop((∀ a b d, (owN c 12 ∗ gq X c 4 128 128 fullShare.left ∗ gq X c 1 0 256 fullShare.left ∗ (pend c 10 ∗ pend c 11) ∗ semVal (rcell c 3) 0 ∗ wp_ W c) -∗ WP c (k ⟨a, b, d, k0_pay2 (X (dx 1 c)) (W c), k0_pay3⟩) Q)
          -∗ WP c (k0_part7 (F := F) xM h0 wM h1 oM h2 gM h3 cc0_scratch1 cc0_scratch2 c v2 v3 v5 v85 >>= k) Q) := by
  rw [k0_part7_eq_skeleton]
  unfold k0_part7_skel
  simp only [Prog.lift, Prog.bind_op, Prog.bind_ret, Prog.pure_eq_ret]
  iintro ⟨#Hrec, #Hlev, HO, Hg4, Hin3, ⟨Hz10, Hout10⟩, ⟨Hz11, Hout11⟩, Hl1, Hw⟩ Hk
  ihave Hh := (gq_lend X c 4 128 128) $$ Hg4
  icases Hh with ⟨Hl4, Hr4⟩
  iapply (send_pass X K c _ 10 (t := 10) (u := 11) rfl rfl (by decide) (send_dev 10 c) (o := 4) (s := 128) (m := 128) rfl rfl rfl
    (off3_at c 10 (by decide) (by decide)) (off3_at c 10 (by decide) (by decide)) rfl rfl) $$ [$Hrec $Hr4 $Hz10 $HO $Hout10]
  iintro ⟨Hp10, HO⟩
  iapply (recvd X K c 3 (t := 11) (by decide) (o := 1) (s := 128) (m := 128) rfl rfl rfl rfl rfl) $$ [$Hrec $Hlev $Hin3 $HO]
  iintro ⟨Hg1, Hv3, HO⟩
  ihave Hh := (gq_lend X c 1 128 128) $$ Hg1
  icases Hh with ⟨Hm1, Hr1⟩
  iapply (send_pass X K c _ 11 (t := 11) (u := 12) rfl rfl (by decide) (send_dev 11 c) (o := 1) (s := 128) (m := 128) rfl rfl rfl
    (off3_at c 11 (by decide) (by decide)) (off3_at c 11 (by decide) (by decide)) rfl rfl) $$ [$Hrec $Hr1 $Hz11 $HO $Hout11]
  iintro ⟨Hp11, HO⟩
  ihave Hl := (gq_glue X c 1 0 128 128 fullShare.left (t := 256) (s' := 128) rfl rfl) $$ [$Hl1 $Hm1]
  iapply (step_load_g X c 1 fullShare.left (off4_at c 1 (by decide))) $$ Hl
  iintro Hl
  iapply (step_load_w W c) $$ Hw
  iintro Hw
  iapply Hk
  iframe ∗

/-- The blocks of the three partners are stored. -/
theorem part8 {α : Type} {Q : α → sProp 𝕄} {k : _ → Prog (TpuEff nD τ sig (Elt F) Λ₀ .tc) α} {h0 h1 h2 h3} {v2 v4 v194 v195 v196} :
    iprop(records X K ∗ levAts L lv ∗ outp X W c (insert c ∅) ∗ wp_ W c ∗ (gq X c 3 0 128 fullShare.left ∗ gq X c 3 128 128 fullShare.left) ∗ (gq X c 4 0 128 fullShare.left ∗ gq X c 4 128 128 fullShare.left))
      ⊢ iprop((∀ a b d, (outp X W c (insert (dx 4 c) (insert (dx 3 c) (insert (dx 1 c) (insert c ∅)))) ∗ wp_ W c ∗ gq X c 3 0 256 fullShare.left ∗ gq X c 4 0 256 fullShare.left) -∗ WP c (k ⟨a, b, d⟩) Q)
          -∗ WP c (k0_part8 (F := F) xM h0 wM h1 oM h2 gM h3 cc0_scratch1 cc0_scratch2 c v2 v4 v194 v195 v196 (k0_pay2 (X (dx 1 c)) (W c)) k0_pay3 >>= k) Q) := by
  rw [k0_part8_eq_skeleton]
  unfold k0_part8_skel
  simp only [Prog.lift, Prog.bind_op, Prog.bind_ret, Prog.pure_eq_ret]
  iintro ⟨#Hrec, #Hlev, Ho, Hw, ⟨Hl3, Hm3⟩, ⟨Hl4, Hm4⟩⟩ Hk
  iapply (step_load_out X W c (insert c ∅)) $$ Ho
  iintro %v Ho
  iapply (step_store X W c (insert c ∅) (dx 1 c) (off5_at c 1 (by decide)) rfl) $$ Ho
  iintro Ho
  ihave Hg3 := (gq_glue X c 3 0 128 128 fullShare.left (t := 256) (s' := 128) rfl rfl) $$ [$Hl3 $Hm3]
  iapply (step_load_g X c 3 fullShare.left (off4_at c 3 (by decide))) $$ Hg3
  iintro Hg3
  iapply (step_load_w W c) $$ Hw
  iintro Hw
  iapply (step_load_out X W c (insert (dx 1 c) (insert c ∅))) $$ Ho
  iintro %v Ho
  iapply (step_store X W c (insert (dx 1 c) (insert c ∅)) (dx 3 c) (off5_at c 3 (by decide)) rfl) $$ Ho
  iintro Ho
  ihave Hg4 := (gq_glue X c 4 0 128 128 fullShare.left (t := 256) (s' := 128) rfl rfl) $$ [$Hl4 $Hm4]
  iapply (step_load_g X c 4 fullShare.left (off4_at c 4 (by decide))) $$ Hg4
  iintro Hg4
  iapply (step_load_w W c) $$ Hw
  iintro Hw
  iapply (step_load_out X W c (insert (dx 3 c) (insert (dx 1 c) (insert c ∅)))) $$ Ho
  iintro %v Ho
  iapply (step_store X W c (insert (dx 3 c) (insert (dx 1 c) (insert c ∅))) (dx 4 c) (off5_at c 4 (by decide)) rfl) $$ Ho
  iintro Ho
  iapply Hk
  iframe ∗

/-- Half 7 lands and a piece of it is passed on; halves 8 and 6 land. -/
theorem part9 {α : Type} {Q : α → sProp 𝕄} {k : _ → Prog (TpuEff nD τ sig (Elt F) Λ₀ .tc) α} {h0 h1 h2 h3} {v3 v5 v230} :
    iprop(records X K ∗ levAts L lv ∗ owN c 12 ∗ (inn c 7 ∗ inn c 8 ∗ inn c 6) ∗ zn c 12 ∗ out c 12)
      ⊢ iprop((∀ a b, (owN c 13 ∗ (gq X c 7 0 88 fullShare.left ∗ gq X c 7 88 40 fullShare) ∗ gq X c 5 0 128 fullShare ∗ gq X c 2 0 128 fullShare ∗ pend c 12 ∗ semVal (rcell c 7) 0 ∗ semVal (rcell c 8) 0 ∗ semVal (rcell c 6) 0) -∗ WP c (k ⟨a, b⟩) Q)
          -∗ WP c (k0_part9 (F := F) xM h0 wM h1 oM h2 gM h3 cc0_scratch1 cc0_scratch2 c v3 v5 v230 >>= k) Q) := by
  rw [k0_part9_eq_skeleton]
  unfold k0_part9_skel
  simp only [Prog.lift, Prog.bind_op, Prog.bind_ret, Prog.pure_eq_ret]
  iintro ⟨#Hrec, #Hlev, HO, ⟨Hin7, Hin8, Hin6⟩, Hz12, Hout12⟩ Hk
  iapply (recvd X K c 7 (t := 12) (by decide) (o := 7) (s := 0) (m := 128) rfl rfl rfl rfl rfl) $$ [$Hrec $Hlev $Hin7 $HO]
  iintro ⟨Hg7, Hv7, HO⟩
  ihave Hh := (gq_cut X c 7 0 88 40 fullShare (t := 128) (s' := 88) rfl rfl) $$ Hg7
  icases Hh with ⟨Hg7, Hk7⟩
  ihave Hh := (gq_lend X c 7 0 88) $$ Hg7
  icases Hh with ⟨Hl7, Hr7⟩
  iapply (send_pass X K c _ 12 (t := 12) (u := 13) rfl rfl (by decide) (send_dev 12 c) (o := 7) (s := 0) (m := 88) rfl rfl rfl
    (off6_at c 12 (by decide) (by decide)) (off6_at c 12 (by decide) (by decide)) rfl rfl) $$ [$Hrec $Hr7 $Hz12 $HO $Hout12]
  iintro ⟨Hp12, HO⟩
  iapply (recvd X K c 8 (t := 13) (by decide) (o := 5) (s := 0) (m := 128) rfl rfl rfl rfl rfl) $$ [$Hrec $Hlev $Hin8 $HO]
  iintro ⟨Hg5, Hv8, HO⟩
  iapply (recvd X K c 6 (t := 13) (by decide) (o := 2) (s := 0) (m := 128) rfl rfl rfl rfl rfl) $$ [$Hrec $Hlev $Hin6 $HO]
  iintro ⟨Hg2, Hv6, HO⟩
  iapply Hk
  iframe ∗

/-- Half 11 lands and a piece of its block is passed on; half 9 lands. -/
theorem part10 {α : Type} {Q : α → sProp 𝕄} {k : _ → Prog (TpuEff nD τ sig (Elt F) Λ₀ .tc) α} {h0 h1 h2 h3} {v3 v4 v5 v231 v232 v263 c0} :
    iprop(records X K ∗ levAts L lv ∗ owN c 13 ∗ (inn c 11 ∗ inn c 9) ∗ gq X c 5 0 128 fullShare ∗ zn c 13 ∗ out c 13)
      ⊢ iprop(((owN c 14 ∗ gq X c 5 0 256 fullShare.left ∗ (gq X c 5 0 88 fullShare.right ∗ gq X c 5 176 80 fullShare.right) ∗ gq X c 2 128 128 fullShare ∗ pend c 13 ∗ semVal (rcell c 11) 0 ∗ semVal (rcell c 9) 0) -∗ WP c (k ⟨⟩) Q)
          -∗ WP c (k0_part10 (F := F) xM h0 wM h1 oM h2 gM h3 cc0_scratch1 cc0_scratch2 c v3 v4 v5 v231 v232 v263 c0 >>= k) Q) := by
  rw [k0_part10_eq_skeleton]
  unfold k0_part10_skel
  simp only [Prog.lift, Prog.bind_op, Prog.bind_ret, Prog.pure_eq_ret]
  iintro ⟨#Hrec, #Hlev, HO, ⟨Hin11, Hin9⟩, Hg5, Hz13, Hout13⟩ Hk
  iapply (recvd X K c 11 (t := 13) (by decide) (o := 5) (s := 128) (m := 128) rfl rfl rfl rfl rfl) $$ [$Hrec $Hlev $Hin11 $HO]
  iintro ⟨Hh5, Hv11, HO⟩
  ihave Hg := (gq_glue X c 5 0 128 128 fullShare (t := 256) (s' := 128) rfl rfl) $$ [$Hg5 $Hh5]
  ihave Hh := (gq_lend X c 5 0 256) $$ Hg
  icases Hh with ⟨Hl5, Hr5⟩
  ihave Hh := (gq_cut X c 5 0 88 168 fullShare.right (t := 256) (s' := 88) rfl rfl) $$ Hr5
  icases Hh with ⟨Ha5, Hr5⟩
  ihave Hh := (gq_cut X c 5 88 88 80 fullShare.right (t := 168) (s' := 176) rfl rfl) $$ Hr5
  icases Hh with ⟨Hr5, Hb5⟩
  iapply (send_pass X K c _ 13 (t := 13) (u := 14) rfl rfl (by decide) (send_dev 13 c) (o := 5) (s := 88) (m := 88) rfl rfl rfl
    (off6_at c 13 (by decide) (by decide)) (off6_at c 13 (by decide) (by decide)) rfl rfl) $$ [$Hrec $Hr5 $Hz13 $HO $Hout13]
  iintro ⟨Hp13, HO⟩
  iapply (recvd X K c 9 (t := 14) (by decide) (o := 2) (s := 128) (m := 128) rfl rfl rfl rfl rfl) $$ [$Hrec $Hlev $Hin9 $HO]
  iintro ⟨Hg2, Hv9, HO⟩
  iapply Hk
  iframe ∗

/-- A piece of the block of halves 6 and 9 is passed on; half 10 lands; that block of the result is stored and the operands of the next are read. -/
theorem part11 {α : Type} {Q : α → sProp 𝕄} {k : _ → Prog (TpuEff nD τ sig (Elt F) Λ₀ .tc) α} {h0 h1 h2 h3} {v2 v4} :
    iprop(records X K ∗ levAts L lv ∗ owN c 14 ∗ (gq X c 2 0 128 fullShare ∗ gq X c 2 128 128 fullShare) ∗ inn c 10 ∗ (gq X c 7 0 88 fullShare.left ∗ gq X c 7 88 40 fullShare) ∗ (zn c 14 ∗ out c 14) ∗ wp_ W c ∗ outp X W c (insert (dx 4 c) (insert (dx 3 c) (insert (dx 1 c) (insert c ∅)))))
      ⊢ iprop((∀ a b, (owN c 15 ∗ gq X c 2 0 256 fullShare.left ∗ gq X c 2 0 176 fullShare.right ∗ pend c 14 ∗ gq X c 7 0 256 fullShare.left ∗ gq X c 7 88 168 fullShare.right ∗ semVal (rcell c 10) 0 ∗ wp_ W c ∗ outp X W c (insert (dx 2 c) (insert (dx 4 c) (insert (dx 3 c) (insert (dx 1 c) (insert c ∅)))))) -∗ WP c (k ⟨a, b, k0_pay8 (X (dx 7 c)) (W c)⟩) Q)
          -∗ WP c (k0_part11 (F := F) xM h0 wM h1 oM h2 gM h3 cc0_scratch1 cc0_scratch2 c v2 v4 >>= k) Q) := by
  rw [k0_part11_eq_skeleton]
  unfold k0_part11_skel
  simp only [Prog.lift, Prog.bind_op, Prog.bind_ret, Prog.pure_eq_ret]
  iintro ⟨#Hrec, #Hlev, HO, ⟨Hg2, Hh2⟩, Hin10, ⟨Hl7, Hk7⟩, ⟨Hz14, Hout14⟩, Hw, Ho⟩ Hk
  ihave Hg := (gq_glue X c 2 0 128 128 fullShare (t := 256) (s' := 128) rfl rfl) $$ [$Hg2 $Hh2]
  ihave Hh := (gq_lend X c 2 0 256) $$ Hg
  icases Hh with ⟨Hl2, Hr2⟩
  ihave Hh := (gq_cut X c 2 0 176 80 fullShare.right (t := 256) (s' := 176) rfl rfl) $$ Hr2
  icases Hh with ⟨Ha2, Hr2⟩
  iapply (send_pass X K c _ 14 (t := 14) (u := 15) rfl rfl (by decide) (send_dev 14 c) (o := 2) (s := 176) (m := 80) rfl rfl rfl
    (off7_at c) (off7_at c) rfl rfl) $$ [$Hrec $Hr2 $Hz14 $HO $Hout14]
  iintro ⟨Hp14, HO⟩
  iapply (recvd X K c 10 (t := 15) (by decide) (o := 7) (s := 128) (m := 128) rfl rfl rfl rfl rfl) $$ [$Hrec $Hlev $Hin10 $HO]
  iintro ⟨Hg7, Hv10, HO⟩
  iapply (step_load_g X c 2 fullShare.left (off4_at c 2 (by decide))) $$ Hl2
  iintro Hl2
  iapply (step_load_w W c) $$ Hw
  iintro Hw
  iapply (step_load_out X W c (insert (dx 4 c) (insert (dx 3 c) (insert (dx 1 c) (insert c ∅))))) $$ Ho
  iintro %v Ho
  iapply (step_store X W c (insert (dx 4 c) (insert (dx 3 c) (insert (dx 1 c) (insert c ∅)))) (dx 2 c) (off5_at c 2 (by decide)) rfl) $$ Ho
  iintro Ho
  ihave Hg := (gq_glue X c 7 88 40 128 fullShare (t := 168) (s' := 128) rfl rfl) $$ [$Hk7 $Hg7]
  ihave Hh := (gq_lend X c 7 88 168) $$ Hg
  icases Hh with ⟨Hm7, Hr7⟩
  ihave Hg7 := (gq_glue X c 7 0 88 168 fullShare.left (t := 256) (s' := 88) rfl rfl) $$ [$Hl7 $Hm7]
  iapply (step_load_g X c 7 fullShare.left (off4_at c 7 (by decide))) $$ Hg7
  iintro Hg7
  iapply (step_load_w W c) $$ Hw
  iintro Hw
  iapply Hk
  iframe ∗

/-- Two more blocks of the result are stored; transfers 12 and 13 land. -/
theorem part12 {α : Type} {Q : α → sProp 𝕄} {k : _ → Prog (TpuEff nD τ sig (Elt F) Λ₀ .tc) α} {h0 h1 h2 h3} {v3 v4 v5 v306 v307} :
    iprop(records X K ∗ levAts L lv ∗ owN c 15 ∗ outp X W c (insert (dx 2 c) (insert (dx 4 c) (insert (dx 3 c) (insert (dx 1 c) (insert c ∅))))) ∗ wp_ W c ∗ gq X c 5 0 256 fullShare.left ∗ inn c 12 ∗ inn c 13)
      ⊢ iprop(((owN c 15 ∗ outp X W c (insert (dx 5 c) (insert (dx 7 c) (insert (dx 2 c) (insert (dx 4 c) (insert (dx 3 c) (insert (dx 1 c) (insert c ∅))))))) ∗ wp_ W c ∗ gq X c 5 0 256 fullShare.left ∗ (gq X c 6 0 88 fullShare ∗ gq X c 6 88 88 fullShare) ∗ semVal (rcell c 12) 0 ∗ semVal (rcell c 13) 0) -∗ WP c (k ⟨⟩) Q)
          -∗ WP c (k0_part12 (F := F) xM h0 wM h1 oM h2 gM h3 cc0_scratch1 cc0_scratch2 c v3 v4 v5 v306 v307 (k0_pay8 (X (dx 7 c)) (W c)) >>= k) Q) := by
  rw [k0_part12_eq_skeleton]
  unfold k0_part12_skel
  simp only [Prog.lift, Prog.bind_op, Prog.bind_ret, Prog.pure_eq_ret]
  iintro ⟨#Hrec, #Hlev, HO, Ho, Hw, Hg5, Hin12, Hin13⟩ Hk
  iapply (step_load_out X W c (insert (dx 2 c) (insert (dx 4 c) (insert (dx 3 c) (insert (dx 1 c) (insert c ∅)))))) $$ Ho
  iintro %v Ho
  iapply (step_store X W c (insert (dx 2 c) (insert (dx 4 c) (insert (dx 3 c) (insert (dx 1 c) (insert c ∅))))) (dx 7 c) (off5_at c 7 (by decide)) rfl) $$ Ho
  iintro Ho
  iapply (step_load_g X c 5 fullShare.left (off4_at c 5 (by decide))) $$ Hg5
  iintro Hg5
  iapply (step_load_w W c) $$ Hw
  iintro Hw
  iapply (step_load_out X W c (insert (dx 7 c) (insert (dx 2 c) (insert (dx 4 c) (insert (dx 3 c) (insert (dx 1 c) (insert c ∅))))))) $$ Ho
  iintro %v Ho
  iapply (step_store X W c (insert (dx 7 c) (insert (dx 2 c) (insert (dx 4 c) (insert (dx 3 c) (insert (dx 1 c) (insert c ∅)))))) (dx 5 c) (off5_at c 5 (by decide)) rfl) $$ Ho
  iintro Ho
  iapply (recvd X K c 12 (t := 15) (by decide) (o := 6) (s := 0) (m := 88) rfl rfl rfl rfl rfl) $$ [$Hrec $Hlev $Hin12 $HO]
  iintro ⟨Ha, Hv12, HO⟩
  iapply (recvd X K c 13 (t := 15) (by decide) (o := 6) (s := 88) (m := 88) rfl rfl rfl rfl rfl) $$ [$Hrec $Hlev $Hin13 $HO]
  iintro ⟨Hb, Hv13, HO⟩
  iapply Hk
  iframe ∗

/-- The last transfer lands and the last block of the result is stored; transfers 0, 1 and 2 have left. -/
theorem part13 {α : Type} {Q : α → sProp 𝕄} {k : _ → Prog (TpuEff nD τ sig (Elt F) Λ₀ .tc) α} {h0 h1 h2 h3} {v2} :
    iprop(records X K ∗ levAts L lv ∗ owN c 15 ∗ outp X W c (insert (dx 5 c) (insert (dx 7 c) (insert (dx 2 c) (insert (dx 4 c) (insert (dx 3 c) (insert (dx 1 c) (insert c ∅))))))) ∗ wp_ W c ∗ (gq X c 6 0 88 fullShare ∗ gq X c 6 88 88 fullShare) ∗ inn c 14 ∗ pend c 0 ∗ pend c 1 ∗ pend c 2)
      ⊢ iprop(((owN c 15 ∗ outp X W c (insert (dx 6 c) (insert (dx 5 c) (insert (dx 7 c) (insert (dx 2 c) (insert (dx 4 c) (insert (dx 3 c) (insert (dx 1 c) (insert c ∅)))))))) ∗ wp_ W c ∗ gq X c 6 0 256 fullShare ∗ semVal (rcell c 14) 0 ∗ (xp X c 0 128 (xq 0) ∗ xp X c 0 128 (xq 1) ∗ xp X c 0 128 (xq 2)) ∗ semVal (scell c 0) 0 ∗ semVal (scell c 1) 0 ∗ semVal (scell c 2) 0) -∗ WP c (k ⟨⟩) Q)
          -∗ WP c (k0_part13 (F := F) xM h0 wM h1 oM h2 gM h3 cc0_scratch1 cc0_scratch2 c v2 >>= k) Q) := by
  rw [k0_part13_eq_skeleton]
  unfold k0_part13_skel
  simp only [Prog.lift, Prog.bind_op, Prog.bind_ret, Prog.pure_eq_ret]
  iintro ⟨#Hrec, #Hlev, HO, Ho, Hw, ⟨Ha, Hb⟩, Hin14, Hp0, Hp1, Hp2⟩ Hk
  iapply (recvd X K c 14 (t := 15) (by decide) (o := 6) (s := 176) (m := 80) rfl rfl rfl rfl rfl) $$ [$Hrec $Hlev $Hin14 $HO]
  iintro ⟨Hd, Hv14, HO⟩
  ihave Hg := (gq_glue X c 6 88 88 80 fullShare (t := 168) (s' := 176) rfl rfl) $$ [$Hb $Hd]
  ihave Hg6 := (gq_glue X c 6 0 88 168 fullShare (t := 256) (s' := 88) rfl rfl) $$ [$Ha $Hg]
  ihave Hh := (gq_lend X c 6 0 256) $$ Hg6
  icases Hh with ⟨Hl6, Hr6⟩
  iapply (step_load_g X c 6 fullShare.left (off4_at c 6 (by decide))) $$ Hl6
  iintro Hl6
  iapply (step_load_w W c) $$ Hw
  iintro Hw
  iapply (step_load_out X W c (insert (dx 5 c) (insert (dx 7 c) (insert (dx 2 c) (insert (dx 4 c) (insert (dx 3 c) (insert (dx 1 c) (insert c ∅)))))))) $$ Ho
  iintro %v Ho
  iapply (step_store X W c (insert (dx 5 c) (insert (dx 7 c) (insert (dx 2 c) (insert (dx 4 c) (insert (dx 3 c) (insert (dx 1 c) (insert c ∅))))))) (dx 6 c) (off5_at c 6 (by decide)) rfl) $$ Ho
  iintro Ho
  ihave Hg6 := (gq_back X c 6 0 256) $$ [$Hl6 $Hr6]
  iapply (left_own X K c 0 (by decide) (s := 0) (l := 0) rfl rfl rfl rfl) $$ [$Hrec $Hp0 $HO]
  iintro ⟨Hs0, Hv0, HO⟩
  iapply (left_own X K c 1 (by decide) (s := 0) (l := 1) rfl rfl rfl rfl) $$ [$Hrec $Hp1 $HO]
  iintro ⟨Hs1, Hv1, HO⟩
  iapply (left_own X K c 2 (by decide) (s := 0) (l := 2) rfl rfl rfl rfl) $$ [$Hrec $Hp2 $HO]
  iintro ⟨Hs2, Hv2, HO⟩
  iapply Hk
  iframe ∗

/-- Transfers 3 to 7 have left. -/
theorem part14 {α : Type} {Q : α → sProp 𝕄} {k : _ → Prog (TpuEff nD τ sig (Elt F) Λ₀ .tc) α} {h0 h1 h2 h3} :
    iprop(records X K ∗ levAts L lv ∗ owN c 15 ∗ pend c 3 ∗ pend c 4 ∗ pend c 5 ∗ pend c 6 ∗ pend c 7)
      ⊢ iprop(((owN c 15 ∗ (xp X c 128 128 (xq 0) ∗ xp X c 128 128 (xq 1) ∗ xp X c 128 128 (xq 2)) ∗ (gq X c 3 0 128 fullShare.right ∗ gq X c 4 0 128 fullShare.right) ∗ semVal (scell c 3) 0 ∗ semVal (scell c 4) 0 ∗ semVal (scell c 5) 0 ∗ semVal (scell c 6) 0 ∗ semVal (scell c 7) 0) -∗ WP c (k ⟨⟩) Q)
          -∗ WP c (k0_part14 (F := F) xM h0 wM h1 oM h2 gM h3 cc0_scratch1 cc0_scratch2 c >>= k) Q) := by
  rw [k0_part14_eq_skeleton]
  unfold k0_part14_skel
  simp only [Prog.lift, Prog.bind_op, Prog.bind_ret, Prog.pure_eq_ret]
  iintro ⟨#Hrec, #Hlev, HO, Hp3, Hp4, Hp5, Hp6, Hp7⟩ Hk
  iapply (left_own X K c 3 (by decide) (s := 128) (l := 0) rfl rfl rfl rfl) $$ [$Hrec $Hp3 $HO]
  iintro ⟨Hs3, Hv3, HO⟩
  iapply (left_own X K c 4 (by decide) (s := 128) (l := 1) rfl rfl rfl rfl) $$ [$Hrec $Hp4 $HO]
  iintro ⟨Hs4, Hv4, HO⟩
  iapply (left_own X K c 5 (by decide) (s := 128) (l := 2) rfl rfl rfl rfl) $$ [$Hrec $Hp5 $HO]
  iintro ⟨Hs5, Hv5, HO⟩
  iapply (left_pass X K c 6 (by decide) (o := 3) (s := 0) (m := 128) rfl rfl rfl rfl rfl) $$ [$Hrec $Hp6 $HO]
  iintro ⟨Hs6, Hv6, HO⟩
  iapply (left_pass X K c 7 (by decide) (o := 4) (s := 0) (m := 128) rfl rfl rfl rfl rfl) $$ [$Hrec $Hp7 $HO]
  iintro ⟨Hs7, Hv7, HO⟩
  iapply Hk
  iframe ∗

/-- Transfers 8 to 13 have left. -/
theorem part15 {α : Type} {Q : α → sProp 𝕄} {k : _ → Prog (TpuEff nD τ sig (Elt F) Λ₀ .tc) α} {h0 h1 h2 h3} :
    iprop(records X K ∗ levAts L lv ∗ owN c 15 ∗ pend c 8 ∗ pend c 9 ∗ pend c 10 ∗ pend c 11 ∗ pend c 12 ∗ pend c 13)
      ⊢ iprop(((owN c 15 ∗ (gq X c 1 0 128 fullShare.right ∗ gq X c 3 128 128 fullShare.right ∗ gq X c 4 128 128 fullShare.right ∗ gq X c 1 128 128 fullShare.right ∗ gq X c 7 0 88 fullShare.right ∗ gq X c 5 88 88 fullShare.right) ∗ semVal (scell c 8) 0 ∗ semVal (scell c 9) 0 ∗ semVal (scell c 10) 0 ∗ semVal (scell c 11) 0 ∗ semVal (scell c 12) 0 ∗ semVal (scell c 13) 0) -∗ WP c (k ⟨⟩) Q)
          -∗ WP c (k0_part15 (F := F) xM h0 wM h1 oM h2 gM h3 cc0_scratch1 cc0_scratch2 c >>= k) Q) := by
  rw [k0_part15_eq_skeleton]
  unfold k0_part15_skel
  simp only [Prog.lift, Prog.bind_op, Prog.bind_ret, Prog.pure_eq_ret]
  iintro ⟨#Hrec, #Hlev, HO, Hp8, Hp9, Hp10, Hp11, Hp12, Hp13⟩ Hk
  iapply (left_pass X K c 8 (by decide) (o := 1) (s := 0) (m := 128) rfl rfl rfl rfl rfl) $$ [$Hrec $Hp8 $HO]
  iintro ⟨Hs8, Hv8, HO⟩
  iapply (left_pass X K c 9 (by decide) (o := 3) (s := 128) (m := 128) rfl rfl rfl rfl rfl) $$ [$Hrec $Hp9 $HO]
  iintro ⟨Hs9, Hv9, HO⟩
  iapply (left_pass X K c 10 (by decide) (o := 4) (s := 128) (m := 128) rfl rfl rfl rfl rfl) $$ [$Hrec $Hp10 $HO]
  iintro ⟨Hs10, Hv10, HO⟩
  iapply (left_pass X K c 11 (by decide) (o := 1) (s := 128) (m := 128) rfl rfl rfl rfl rfl) $$ [$Hrec $Hp11 $HO]
  iintro ⟨Hs11, Hv11, HO⟩
  iapply (left_pass X K c 12 (by decide) (o := 7) (s := 0) (m := 88) rfl rfl rfl rfl rfl) $$ [$Hrec $Hp12 $HO]
  iintro ⟨Hs12, Hv12, HO⟩
  iapply (left_pass X K c 13 (by decide) (o := 5) (s := 88) (m := 88) rfl rfl rfl rfl rfl) $$ [$Hrec $Hp13 $HO]
  iintro ⟨Hs13, Hv13, HO⟩
  iapply Hk
  iframe ∗

/-- A product over the fifteen transfers, written out. -/
theorem fan (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_univ_eq_bigSepL [0, 1, 2, 3, 4, 5, 6, 7, 8, 9, 10, 11, 12, 13, 14] (by decide) (by decide)]
  iterate 14 rw [bigSepL_cons_cons]
  rw [bigSepL_singleton]
  rfl

/-- The device's own block of `x`: a share kept whole, and three shares of each half lent. -/
theorem x_lend :
    xp X c 0 256 fullShare = iprop(xp X c 0 256 fullShare.left ∗ (xp X c 0 128 (xq 0) ∗ xp X c 128 128 (xq 0))
      ∗ (xp X c 0 128 (xq 1) ∗ xp X c 128 128 (xq 1)) ∗ (xp X c 0 128 (xq 2) ∗ xp X c 128 128 (xq 2))) := by
  have e (q : PosShare TreeShare) : xp X c 0 256 q = iprop(xp X c 0 128 q ∗ xp X c 128 128 q) := xp_add X c 0 128 128 q
  rw [xp_half X c 0 256 fullShare, xp_half X c 0 256 fullShare.right, xp_half X c 0 256 fullShare.right.right,
    e fullShare.right.left, e fullShare.right.right.left, e fullShare.right.right.right]
  rfl

/-- What device `c` starts the kernel with. -/
def pre : sProp 𝕄 :=
  iprop(ow c (O₀ c)
    ∗ (dutyTok ER (bcell (pt 0 c)) 0 0 ∗ dutyTok ER (bcell (pt 1 c)) 0 1 ∗ dutyTok ER (bcell (pt 2 c)) 0 2)
    ∗ (barPay (pt 0 c) 0 ∗ barPay (pt 1 c) 1 ∗ barPay (pt 2 c) 2)
    ∗ cred (tallyAt (bcell c) () 3) ∗ atPos ER (bcell c) 0 ∅ 0
    ∗ bigSep Finset.univ (out c) ∗ bigSep Finset.univ (inn c) ∗ xp X c 0 256 fullShare ∗ wp_ W c ∗ outp X W c ∅)

/-- The blocks of the gathering buffer, all of `x` but the device's own block. -/
def gath : sProp 𝕄 :=
  iprop(gq X c 1 0 256 fullShare ∗ gq X c 2 0 256 fullShare ∗ gq X c 3 0 256 fullShare ∗ gq X c 4 0 256 fullShare
    ∗ gq X c 5 0 256 fullShare ∗ gq X c 6 0 256 fullShare ∗ gq X c 7 0 256 fullShare)

/-- What device `c` ends the kernel with. -/
def post : sProp 𝕄 :=
  iprop(ow c 0 ∗ semVal (bcell c) 0 ∗ bigSep Finset.univ (fun i => semVal (scell c i) 0) ∗ bigSep Finset.univ (fun i => semVal (rcell c i) 0)
    ∗ gath X c ∗ xp X c 0 256 fullShare ∗ wp_ W c ∗ outp X W c Finset.univ)

/-- The end of a program. -/
theorem WP_ret {Q : PUnit → sProp 𝕄} : Q ⟨⟩ ⊢ WP c (.ret ⟨⟩) Q := by
  show Q ⟨⟩ ⊢ wp _ _ _ _ _
  rw [wp_ret]
  iintro H
  imodintro
  iexact H

theorem owN_last : (owN c 15 : sProp 𝕄) = ow c 0 := rfl

/-- The eight blocks are all of them. -/
theorem all_blocks : insert (dx 6 c) (insert (dx 5 c) (insert (dx 7 c) (insert (dx 2 c) (insert (dx 4 c) (insert (dx 3 c)
    (insert (dx 1 c) (insert c (∅ : Finset (Dev nD))))))))) = Finset.univ := by
  revert c; decide +kernel

/-- The kernel on device `c`: every block of `x` arrives, and the result is the product with all of them. -/
theorem body {h0 h1 h2 h3} :
    iprop(records X K ∗ levAts L lv ∗ pre X W c)
      ⊢ WP c (cc0_body (F := F) xM h0 wM h1 oM h2 gM h3 cc0_scratch1 cc0_scratch2) (fun _ => post X W c) := by
  rw [cc0_body_eq_skeleton]
  unfold cc0_body_skel pre
  rw [fan, fan, x_lend]
  iintro ⟨#Hrec, #Hlev, HO, Ht, Hp, Hc, Hat, ⟨Ho0, Ho1, Ho2, Ho3, Ho4, Ho5, Ho6, Ho7, Ho8, Ho9, Ho10, Ho11, Ho12, Ho13, Ho14⟩, ⟨Hi0, Hi1, Hi2, Hi3, Hi4, Hi5, Hi6, Hi7, Hi8, Hi9, Hi10, Hi11, Hi12, Hi13, Hi14⟩,
    ⟨Hx, ⟨Hx0, Hx3⟩, ⟨Hx1, Hx4⟩, Hx2, Hx5⟩, Hw, Ho⟩
  iapply (part1 X K c) $$ [$Hrec $Hlev $HO $Ht $Hp $Hc $Hat $Hx0 $Ho0]
  iintro %v2 %v3 %v4 %v5 ⟨HO, Hp0, Hb, ⟨Hz3, Hz6, Hz9, Hz12⟩, ⟨Hz1, Hz4, Hz7, Hz10, Hz13⟩, Hz2, Hz5, Hz8, Hz11, Hz14⟩
  dsimp only
  iapply (part2 X K c) $$ [$Hrec $Hlev $HO $Hx1 $Hz1 $Ho1 $Hx2 $Hz2 $Ho2 $Hx3 $Hz3 $Ho3]
  iintro ⟨HO, Hp1, Hp2, Hp3⟩
  iapply (part3 X W K c) $$ [$Hrec $Hlev $HO $Hx4 $Hz4 $Ho4 $Hx5 $Hz5 $Ho5 $Hx $Hw $Ho]
  iintro %v83 %v84 %v85 ⟨HO, Hp4, Hp5, Hx, Hw, Ho⟩
  dsimp only
  iapply (part4 X K c) $$ [$Hrec $Hlev $HO $Hi1 $Hi2 $Hz6 $Ho6]
  iintro ⟨HO, Hl3, Hg4, Hp6, Hr1, Hr2⟩
  iapply (part5 X K c) $$ [$Hrec $Hlev $HO $Hg4 $Hi0 $Hz7 $Ho7 $Hz8 $Ho8]
  iintro ⟨HO, Hl4, Hl1, ⟨Hp7, Hp8⟩, Hr0⟩
  iapply (part6 X K c) $$ [$Hrec $Hlev $HO $Hi4 $Hi5 $Hz9 $Ho9]
  iintro ⟨HO, Hm3, Hg4, Hp9, Hr4, Hr5⟩
  iapply (part7 X W K c) $$ [$Hrec $Hlev $HO $Hg4 $Hi3 $Hz10 $Ho10 $Hz11 $Ho11 $Hl1 $Hw]
  iintro %v194 %v195 %v196 ⟨HO, Hm4, Hl1, ⟨Hp10, Hp11⟩, Hr3, Hw⟩
  dsimp only
  iapply (part8 X W K c) $$ [$Hrec $Hlev $Ho $Hw $Hl3 $Hm3 $Hl4 $Hm4]
  iintro %v230 %v231 %v232 ⟨Ho, Hw, Hl3, Hl4⟩
  dsimp only
  iapply (part9 X K c) $$ [$Hrec $Hlev $HO $Hi7 $Hi8 $Hi6 $Hz12 $Ho12]
  iintro %v263 %c0 ⟨HO, ⟨Hl7, Hk7⟩, Hg5, Hg2, Hp12, Hr7, Hr8, Hr6⟩
  dsimp only
  iapply (part10 X K c) $$ [$Hrec $Hlev $HO $Hi11 $Hi9 $Hg5 $Hz13 $Ho13]
  iintro ⟨HO, Hl5, ⟨Ha5, Hb5⟩, Hh2, Hp13, Hr11, Hr9⟩
  iapply (part11 X W K c) $$ [$Hrec $Hlev $HO $Hg2 $Hh2 $Hi10 $Hl7 $Hk7 $Hz14 $Ho14 $Hw $Ho]
  iintro %v306 %v307 ⟨HO, Hl2, Ha2, Hp14, Hl7, Hb7, Hr10, Hw, Ho⟩
  dsimp only
  iapply (part12 X W K c) $$ [$Hrec $Hlev $HO $Ho $Hw $Hl5 $Hi12 $Hi13]
  iintro ⟨HO, Ho, Hw, Hl5, ⟨Ha6, Hb6⟩, Hr12, Hr13⟩
  iapply (part13 X W K c) $$ [$Hrec $Hlev $HO $Ho $Hw $Ha6 $Hb6 $Hi14 $Hp0 $Hp1 $Hp2]
  iintro ⟨HO, Ho, Hw, Hg6, Hr14, ⟨Hx0, Hx1, Hx2⟩, Hs0, Hs1, Hs2⟩
  iapply (part14 X K c) $$ [$Hrec $Hlev $HO $Hp3 $Hp4 $Hp5 $Hp6 $Hp7]
  iintro ⟨HO, ⟨Hx3, Hx4, Hx5⟩, ⟨Hc3, Hc4⟩, Hs3, Hs4, Hs5, Hs6, Hs7⟩
  iapply (part15 X K c) $$ [$Hrec $Hlev $HO $Hp8 $Hp9 $Hp10 $Hp11 $Hp12 $Hp13]
  iintro ⟨HO, ⟨Hc1, Hd3, Hd4, Hd1, Ha7, Hc5⟩, Hs8, Hs9, Hs10, Hs11, Hs12, Hs13⟩
  simp only [Prog.lift, Prog.bind_op, Prog.bind_ret, Prog.pure_eq_ret]
  iapply (left_pass X K c 14 (by decide) (o := 2) (s := 176) (m := 80) rfl rfl rfl rfl rfl) $$ [$Hrec $Hp14 $HO]
  iintro ⟨Hb2, Hs14, HO⟩
  iapply WP_ret
  unfold post gath
  rw [fan, fan, x_lend]
  ihave Hq1 := (gq_glue X c 1 0 128 128 fullShare.right (t := 256) (s' := 128) rfl rfl) $$ [$Hc1 $Hd1]
  ihave Hq3 := (gq_glue X c 3 0 128 128 fullShare.right (t := 256) (s' := 128) rfl rfl) $$ [$Hc3 $Hd3]
  ihave Hq4 := (gq_glue X c 4 0 128 128 fullShare.right (t := 256) (s' := 128) rfl rfl) $$ [$Hc4 $Hd4]
  ihave Hq7 := (gq_glue X c 7 0 88 168 fullShare.right (t := 256) (s' := 88) rfl rfl) $$ [$Ha7 $Hb7]
  ihave Hq5 := (gq_glue X c 5 88 88 80 fullShare.right (t := 168) (s' := 176) rfl rfl) $$ [$Hc5 $Hb5]
  ihave Hq5 := (gq_glue X c 5 0 88 168 fullShare.right (t := 256) (s' := 88) rfl rfl) $$ [$Ha5 $Hq5]
  ihave Hq2 := (gq_glue X c 2 0 176 80 fullShare.right (t := 256) (s' := 176) rfl rfl) $$ [$Ha2 $Hb2]
  ihave Hg1 := (gq_back X c 1 0 256) $$ [$Hl1 $Hq1]
  ihave Hg2 := (gq_back X c 2 0 256) $$ [$Hl2 $Hq2]
  ihave Hg3 := (gq_back X c 3 0 256) $$ [$Hl3 $Hq3]
  ihave Hg4 := (gq_back X c 4 0 256) $$ [$Hl4 $Hq4]
  ihave Hg5 := (gq_back X c 5 0 256) $$ [$Hl5 $Hq5]
  ihave Hg7 := (gq_back X c 7 0 256) $$ [$Hl7 $Hq7]
  rw [all_blocks]
  rw [← owN_last]
  iframe ∗

end Parts

end Cert.KernelIdealProof
-- ==== Proof.KernelIdealRun.lean ====
/-
  The run of the all-gather with its product: every device's body, the launch that deals the semaphores'
  tokens, and what every final state holds.
-/
module

public import proofs.«01_k».proof.Proof.KernelIdealBody
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arguments -/

/-- The state at the launch: the memory given, every semaphore at zero. -/
def st₀ : MemSt nD τ sig (Elt F) := ⟨m, fun _ => 0, ρ⟩

/-- Each device's block of `x` as launched. -/
def xs : XT F := fun c => (win0_0.blk (0 : Fin 1)).view.read (Elt F) ((st₀ m ρ).mem ((c : Thread nD τ).loc main_arg0))
/-- Each device's columns of `w` as launched. -/
def ws : WT F := fun c => (win0_1.blk (0 : Fin 1)).view.read (Elt F) ((st₀ m ρ).mem ((c : Thread nD τ).loc main_arg1))

/-! ## Tokens and semaphores of one device -/

/-- A device's duty tokens: three at the barrier, one at every send and receive semaphore. -/
abbrev TK : Type := Fin 3 ⊕ (Fin 15 ⊕ Fin 15)
/-- The semaphore and the duty of each token. -/
abbrev tkAt : TK → CK × Fin 3
  | .inl l => (.inl (), l)
  | .inr k => (.inr k, 0)
/-- Which device pays the duty of each token of device `c`, and back. -/
def payer : TK → (Dev nD ≃ Dev nD)
  | .inl l => ptEquiv l
  | .inr (.inl _) => Equiv.refl _
  | .inr (.inr i) => ptEquiv (lk i)

/-- A separating conjunction over a device's semaphores, kind by kind. -/
theorem ck_sum (Φ : CK → sProp 𝕄) : bigSep Finset.univ Φ
    = iprop(Φ (.inl ()) ∗ bigSep Finset.univ (fun i => Φ (.inr (.inl i))) ∗ bigSep Finset.univ (fun i => Φ (.inr (.inr i)))) := by
  rw [bigSep_univ_sum, bigSep_univ_sum, Finset.univ_unique, bigSep_singleton]
  rfl
/-- A separating conjunction over a device's tokens, kind by kind. -/
theorem tk_sum (Φ : TK → sProp 𝕄) : bigSep Finset.univ Φ
    = iprop((Φ (.inl 0) ∗ Φ (.inl 1) ∗ Φ (.inl 2)) ∗ bigSep Finset.univ (fun i => Φ (.inr (.inl i)))
        ∗ bigSep Finset.univ (fun i => Φ (.inr (.inr i)))) := by
  rw [bigSep_univ_sum, bigSep_univ_sum, bigSep_univ_eq_bigSepL [(0 : Fin 3), 1, 2] (by decide) (by decide),
    bigSepL_cons_cons, bigSepL_cons_cons, bigSepL_singleton]
  rfl

/-- The tokens of the duties device `c` pays. -/
def payToks (c : Dev nD) : sProp 𝕄 :=
  bigSep Finset.univ fun j : TK => dutyTok ER (kcell (payer j c, (tkAt j).1)) 0 (tkAt j).2
/-- What stays with device `c`: its positions and those tokens. -/
def linear (c : Dev nD) : sProp 𝕄 :=
  iprop((bigSep Finset.univ fun k : CK => atPos ER (kcell (c, k)) 0 ∅ 0) ∗ payToks c)
/-- What the launch credits device `c`: its barrier's three signals and its fifteen landings. -/
def credits (c : Dev nD) : sProp 𝕄 :=
  iprop(cred (tallyAt (bcell c) () 3) ∗ bigSep Finset.univ fun i : Fin 15 => cred (tallyAt (rcell c i) () (N i)))

/-- Those, regrouped by transfer. -/
theorem linear_deal (c : Dev nD) : (iprop(linear c ∗ credits c) : sProp 𝕄)
    ⊢ iprop((dutyTok ER (bcell (pt 0 c)) 0 0 ∗ dutyTok ER (bcell (pt 1 c)) 0 1 ∗ dutyTok ER (bcell (pt 2 c)) 0 2)
        ∗ cred (tallyAt (bcell c) () 3) ∗ atPos ER (bcell c) 0 ∅ 0
        ∗ bigSep Finset.univ (out c) ∗ bigSep Finset.univ (inn c)) := by
  unfold linear payToks credits out inn
  rw [ck_sum, tk_sum, bigSep_sep', bigSep_sep', bigSep_sep']
  iintro ⟨⟨⟨Hb, Hs, Hr⟩, ⟨H0, H1, H2⟩, Hts, Htr⟩, Hc, Hcr⟩
  isplitl [H0 H1 H2]
  · isplitl [H0]; · iexact H0
    isplitl [H1]; · iexact H1
    iexact H2
  isplitl [Hc]; · iexact Hc
  isplitl [Hb]; · iexact Hb
  isplitl [Hs Hts Htr]
  · isplitl [Hts]; · iexact Hts
    isplitl [Htr]; · iexact Htr
    iexact Hs
  isplitl [Hcr]; · iexact Hcr
  iexact Hr

/-! ## The gathering buffer, cut and joined -/

/-- The rows transfer `i` lands in on device `c`. -/
def land (c : Dev nD) (i : Fin 15) : Finset (Idx ((c : Thread nD τ).loc cc0_scratch0)) := rows (R := 2048) (C := 2048) (rr c i) (ln i)

theorem land_disj (c : Dev nD) : ∀ i j, i ≠ j → Disjoint (land c i) (land c j) :=
  fun i j h => rows_disj (R := 2048) (C := 2048) (rr_disj c i j h)

/-- What is left of the gathering buffer: the device's own block. -/
def spare (c : Dev nD) : sProp 𝕄 :=
  iprop(∃ f, ((c : Thread nD τ).loc cc0_scratch0) ↦[Ring.restOf (land c)]{fullShare} f)
/-- The gathering buffer, holding anything. -/
def scr (c : Dev nD) : sProp 𝕄 :=
  iprop(∃ f : Buf (Elt F) ((c : Thread nD τ).loc cc0_scratch0), ((c : Thread nD τ).loc cc0_scratch0) ↦{fullShare} f)

/-- The rows transfer `i` lands in on device `c` are what its partner is to be handed. -/
theorem land_zn (c : Dev nD) (i : Fin 15) :
    (iprop(∃ f, ((c : Thread nD τ).loc cc0_scratch0) ↦[land c i]{fullShare} f) : sProp 𝕄) ⊢ zn (pt (lk i) c) i := by
  unfold zn gj land
  rw [sr_pt, pt_pt]

/-- The gathering buffer is handed out: to each partner the rows its transfers land in. -/
theorem scr_cut (c : Dev nD) : (scr c : sProp 𝕄)
    ⊢ iprop((barPay (pt 0 c) 0 ∗ barPay (pt 1 c) 1 ∗ barPay (pt 2 c) 2) ∗ spare c) := by
  unfold scr spare
  refine (Ring.fam_split_ex (land c) (land_disj c)).trans (sep_mono_left ?_)
  refine (bigSep_mono fun i _ => land_zn c i).trans ?_
  rw [fan]
  show _ ⊢ iprop((zn (pt 0 c) 0 ∗ zn (pt 0 c) 3 ∗ zn (pt 0 c) 6 ∗ zn (pt 0 c) 9 ∗ zn (pt 0 c) 12)
    ∗ (zn (pt 1 c) 1 ∗ zn (pt 1 c) 4 ∗ zn (pt 1 c) 7 ∗ zn (pt 1 c) 10 ∗ zn (pt 1 c) 13)
    ∗ (zn (pt 2 c) 2 ∗ zn (pt 2 c) 5 ∗ zn (pt 2 c) 8 ∗ zn (pt 2 c) 11 ∗ zn (pt 2 c) 14))
  iintro ⟨H0, H1, H2, H3, H4, H5, H6, H7, H8, H9, H10, H11, H12, H13, H14⟩
  isplitl [H0 H3 H6 H9 H12]
  · isplitl [H0]; · iexact H0
    isplitl [H3]; · iexact H3
    isplitl [H6]; · iexact H6
    isplitl [H9]; · iexact H9
    iexact H12
  isplitl [H1 H4 H7 H10 H13]
  · isplitl [H1]; · iexact H1
    isplitl [H4]; · iexact H4
    isplitl [H7]; · iexact H7
    isplitl [H10]; · iexact H10
    iexact H13
  isplitl [H2]; · iexact H2
  isplitl [H5]; · iexact H5
  isplitl [H8]; · iexact H8
  isplitl [H11]; · iexact H11
  iexact H14

/-- The seven blocks gathered are what the fifteen transfers landed. -/
theorem gath_cut (X : XT F) (c : Dev nD) : gath X c
    ⊢ bigSep Finset.univ fun i => gq X c (kk i) (ss i) (ln i) fullShare := by
  rw [fan]
  unfold gath
  rw [gq_add X c 1 0 128 128 fullShare (t := 256) (s' := 128) rfl rfl, gq_add X c 3 0 128 128 fullShare (t := 256) (s' := 128) rfl rfl,
    gq_add X c 4 0 128 128 fullShare (t := 256) (s' := 128) rfl rfl, gq_add X c 2 0 128 128 fullShare (t := 256) (s' := 128) rfl rfl,
    gq_add X c 7 0 128 128 fullShare (t := 256) (s' := 128) rfl rfl, gq_add X c 5 0 128 128 fullShare (t := 256) (s' := 128) rfl rfl,
    gq_add X c 6 0 88 168 fullShare (t := 256) (s' := 88) rfl rfl, gq_add X c 6 88 88 80 fullShare (t := 168) (s' := 176) rfl rfl]
  iintro ⟨⟨H0, H3⟩, ⟨H6, H9⟩, ⟨H1, H4⟩, ⟨H2, H5⟩, ⟨H8, H11⟩, ⟨H12, H13, H14⟩, H7, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The gathering buffer is whole again. -/
theorem scr_join (X : XT F) (c : Dev nD) : iprop(gath X c ∗ spare c) ⊢ scr c := by
  unfold spare scr
  refine BI.Entails.trans (sep_mono_left ((gath_cut X c).trans (bigSep_mono (Ψ := fun i =>
    iprop(∃ f, ((c : Thread nD τ).loc cc0_scratch0) ↦[land c i]{fullShare} f)) fun i _ => ?_)))
    (Ring.fam_join (land c) (land_disj c) (G X))
  exact Ring.pointsTo_exists (land c i) (G X)

/-! ## The body obligation -/

/-- What a device holds when its body starts. -/
def start (c : Dev nD) : sProp 𝕄 :=
  iprop((∃ K, records (xs m ρ) K ∗ linear c) ∗ credits c ∗ levAts L lv)
def Φ₀ (c : Dev nD) : sProp 𝕄 := iprop(start m ρ c ∗ scr c)
/-- What it holds when its body has ended. -/
def Φ₁ (c : Dev nD) : sProp 𝕄 :=
  iprop(scr c ∗ semVal (bcell c) 0 ∗ bigSep Finset.univ (fun i => semVal (scell c i) 0) ∗ bigSep Finset.univ (fun i => semVal (rcell c i) 0))

/-- The data of the one pipelined region: its arrays, what the body leaves in each staging buffer, what it owes. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xs m ρ c
    | ⟨1, _⟩ => ws m ρ c
    | ⟨2, _⟩ => outG (xs m ρ) (ws m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer held at contents `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

theorem xp_all (X : XT F) (c : Dev nD) :
    xp X c 0 256 fullShare = (((c : Thread nD τ).loc cc0_stg0_0) ↦{fullShare} X c : sProp 𝕄) := by
  unfold xp
  rw [show (rows 0 256 : Finset (Shape.Idx ⟨2, ![256, 2048]⟩)) = Finset.univ from rows_all]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (xs m ρ c) ∗ stg c cc0_stg1_0 (ws m ρ c) ∗ stg c cc0_stg2_0 (outG (xs m ρ) (ws m ρ) c))

/-- What a device holds when its body starts is what the kernel needs, and the spare rows. -/
theorem pre_intro (c : Dev nD) : bodyPre m ρ c
    ⊢ iprop(∃ K, (records (xs m ρ) K ∗ levAts L lv ∗ pre (xs m ρ) (ws m ρ) c) ∗ spare c) := by
  unfold bodyPre Φ₀ start stg pre ow outp wp_
  iintro ⟨⟨⟨⟨%K, Hrec, Hlin⟩, Hcr, Hlev⟩, Hs⟩, Ho, ⟨%d0, %g0, %hg0, Hx⟩, ⟨%d1, %g1, %hg1, Hw⟩, ⟨%d2, %g2, %hg2, Hr⟩⟩
  have hx : g0 = xs m ρ c := by
    rw [hg0]; unfold Dat.before; rw [if_pos (fetch0_0 t0_0)]; rfl
  have hw : g1 = ws m ρ c := by
    rw [hg1]; unfold Dat.before; rw [if_pos (fetch0_1 t0_0)]; rfl
  subst hx
  subst hw
  unfold Dat.owesAt Pipeline.owesWithin
  icases Ho with ⟨%V, %hV, HO⟩
  rw [show (dats m ρ 0 c).owed t0_0.castSucc = O₀ c from rfl, xp_all]
  ihave Hl := (linear_deal c) $$ [$Hlin $Hcr]
  icases Hl with ⟨Ht, Hc, Hat, Hout, Hin⟩
  ihave Hz := (scr_cut c) $$ Hs
  icases Hz with ⟨Hp, Hsp⟩
  iexists K
  isplitr [Hsp]
  · isplitl [Hrec]; · iexact Hrec
    isplitl [Hlev]; · iexact Hlev
    isplitl [HO]; · iexists V; iexact HO
    isplitl [Ht]; · iexact Ht
    isplitl [Hp]; · iexact Hp
    isplitl [Hc]; · iexact Hc
    isplitl [Hat]; · iexact Hat
    isplitl [Hout]; · iexact Hout
    isplitl [Hin]; · iexact Hin
    isplitl [Hx]; · iexact Hx
    isplitl [Hw]; · iexact Hw
    iexists g2
    isplitr
    · ipureintro; exact fun j h => absurd h (Finset.notMem_empty _)
    iexact Hr
  iexact Hsp

/-- What the kernel leaves, with the spare rows, is what the body is to leave. -/
theorem post_elim (c : Dev nD) : iprop(spare c ∗ post (xs m ρ) (ws m ρ) c) ⊢ bodyPost m ρ c := by
  unfold bodyPost Φ₁ stg post ow outp wp_
  rw [xp_all]
  iintro ⟨Hsp, ⟨%V, HO⟩, Hb, Hss, Hsr, Hg, Hx, Hw, ⟨%f, %hf, Hr⟩⟩
  have hf' : f = outG (xs m ρ) (ws m ρ) c := funext fun j => hf j (Finset.mem_univ _)
  subst hf'
  ihave Hs := (scr_join (xs m ρ) c) $$ [$Hg $Hsp]
  isplitl [Hs Hb Hss Hsr]
  · isplitl [Hs]; · iexact Hs
    isplitl [Hb]; · iexact Hb
    isplitl [Hss]; · iexact Hss
    iexact Hsr
  isplitl [HO]
  · unfold Dat.owesAt Pipeline.owesWithin
    iexists V
    isplitr; · ipureintro; exact fun _ _ => Or.inl trivial
    iexact HO
  isplitl [Hx]
  · iexists (xs m ρ c)
    isplitr; · ipureintro; rfl
    iexact Hx
  isplitl [Hw]
  · iexists (ws m ρ c)
    isplitr; · ipureintro; rfl
    iexact Hw
  iexists (outG (xs m ρ) (ws m ρ) c)
  isplitr; · ipureintro; rfl
  iexact Hr

theorem body_sound (c : Dev nD) {h0 h1 h2 h3} : bodyPre m ρ c
    ⊢ WP c (cc0_body (F := F) xM h0 wM h1 oM h2 gM h3 cc0_scratch1 cc0_scratch2) (fun _ => bodyPost m ρ c) := by
  refine (pre_intro m ρ c).trans ?_
  iintro ⟨%K, H, Hsp⟩
  ihave Hb := (body (xs m ρ) (ws m ρ) K c (h0 := h0) (h1 := h1) (h2 := h2) (h3 := h3)) $$ H
  iapply (wp_mono _ _ _ (fun _ => post_elim m ρ c))
  iapply (wp_frame_l _ _ _)
  isplitl [Hsp]; · iexact Hsp
  iexact Hb

set_option maxRecDepth 16000 in
/-- The body meets the pipeline's obligation at its one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

end Cert.KernelIdealProof

end
-- ==== Proof.KernelIdealLaunch.lean ====
/-
  The launch of the all-gather: the tokens and credits dealt to the devices, and what every final state holds.
-/
module

public import proofs.«01_k».proof.Proof.KernelIdealRun
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own scoped semaphores: the send ones and the receive ones. -/
abbrev osem (k : Fin 15 ⊕ Fin 15) : SemLoc sig := csem (.inr k)

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- The tokens as minted: each device's own cells'. -/
abbrev tokOf (cj : Dev nD × TK) : GSem nD τ sig × ℕ × Fin 3 := (kcell (cj.1, (tkAt cj.2).1), 0, (tkAt cj.2).2)

theorem tkAt_injective : Function.Injective tkAt := by
  rintro (l | k) (l' | k') h
  · exact congrArg Sum.inl (congrArg Prod.snd h)
  · exact absurd (congrArg Prod.fst h) (fun h' => by cases h')
  · exact absurd (congrArg Prod.fst h) (fun h' => by cases h')
  · exact congrArg Sum.inr (Sum.inr.inj (congrArg Prod.fst h))

theorem tokOf_injective : Function.Injective tokOf := by
  rintro ⟨c, j⟩ ⟨c', j'⟩ h
  have h1 := kcell_injective (congrArg Prod.fst h)
  have h2 : j = j' := tkAt_injective (Prod.ext (congrArg Prod.snd h1) (congrArg (fun x => x.2.2) h))
  rw [h2, show c = c' from congrArg Prod.fst h1]

def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  bigSep Finset.univ fun j : TK => dutyTok ER (kcell (c, (tkAt j).1)) 0 (tkAt j).2

/-- What the launch deals device `c`. -/
def deal (c : Dev nD) : sProp 𝕄 :=
  iprop((bigSep Finset.univ fun k : CK => roundState ER (Rd (xs m ρ)) (kcell (c, k)) 0)
    ∗ (bigSep Finset.univ fun k : CK => iprop(atPos ER (kcell (c, k)) 0 ∅ 0 ∗ reached ER (kcell (c, k)) 0)) ∗ toks c)

/-- What device `c` has once every device has dealt. -/
def dealt (c : Dev nD) : sProp 𝕄 := iprop(∃ K, records (xs m ρ) K ∗ linear c)

theorem fund_ring : BI.own (ER (initOf cells tokens)) ⊢ (|==> bigSep Finset.univ (deal m ρ) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens toks; rw [bigSep_map, bigSep_univ_prod]; rfl
  iintro HX
  imod (Rounds.fund ER (Rd (xs m ρ)) cells tokens) $$ HX with ⟨Hst, Hr, Hat, Htok⟩
  imodintro
  ihave Hst' := (Entails.of_eq (hX fun g => roundState ER (Rd (xs m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

/-- The kernel's own semaphores are the send and the receive ones; -/
theorem ownSems0_eq (c : Dev nD) : (Pipeline.ownSems0 (Ix := Unit) (Name := ℕ) (U := UU) (Lvl := ℕ) (Val := Elt F) (τ := τ) osem c : sProp 𝕄)
    = iprop(bigSep Finset.univ (fun i => semVal (scell c i) 0) ∗ bigSep Finset.univ (fun i => semVal (rcell c i) 0)) := by
  unfold Pipeline.ownSems0; rw [bigSep_univ_sum]; rfl
/-- the barrier semaphore the launch's one unscoped semaphore. -/
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, ck_sum]
  iintro ⟨⟨HS, HV⟩, HB⟩
  isplitl [HB]; · iexact HB
  isplitl [HS] <;> iassumption

/-- One device's semaphores become its cells' invariants. -/
theorem core_alloc (c : Dev nD) :
    iprop(Pipeline.ownSems0 (Ix := Unit) (Name := ℕ) (U := UU) (Lvl := ℕ) (Val := Elt F) (τ := τ) osem c ∗ unscopedSems0 c ∗ deal m ρ c)
      ⊢ |={Set.univ}=> iprop((bigSep Finset.univ fun k : CK => iprop(∃ κ : ℕ, cellInv ER (Rd (xs m ρ)) κ (kcell (c, k))))
          ∗ (bigSep Finset.univ fun k : CK => iprop(atPos ER (kcell (c, k)) 0 ∅ 0 ∗ reached ER (kcell (c, k)) 0)) ∗ toks c) := by
  unfold deal
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd (xs m ρ)) (kcell (c, k)) 0)
      ⊢ (|={Set.univ}=> bigSep Finset.univ fun k : CK => iprop(∃ κ : ℕ, cellInv ER (Rd (xs m ρ)) κ (kcell (c, k))) : sProp 𝕄) from by
        rw [← bigSep_sep']
        exact (bigSep_mono fun k _ => (Rounds.body_intro ER (Rd (xs m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens go to the devices that pay. -/
theorem toks_around : (bigSep Finset.univ fun c : Dev nD => (toks c : sProp 𝕄)) = bigSep Finset.univ fun c : Dev nD => payToks c := by
  unfold toks payToks
  let e : Dev nD × TK ≃ Dev nD × TK :=
    ⟨fun x => (payer x.2 x.1, x.2), fun x => ((payer x.2).symm x.1, x.2), fun x => by simp, fun x => by simp⟩
  rw [← bigSep_univ_prod (fun x : Dev nD × TK => (dutyTok ER (kcell (x.1, (tkAt x.2).1)) 0 (tkAt x.2).2 : sProp 𝕄)),
    bigSep_univ_equiv e, bigSep_univ_prod]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem records_eq (X : XT F) (K : Dev nD × CK → ℕ) : records X K
    = iprop((bigSep Finset.univ fun ck : Dev nD × CK => cellInv ER (Rd X) (K ck) (kcell ck))
        ∗ bigSep Finset.univ fun ck : Dev nD × CK => reached ER (kcell ck) 0) := by
  unfold records known; rw [bigSep_sep']

/-- Every device's invariants become known to all. -/
theorem regroup :
    (bigSep Finset.univ fun c : Dev nD => iprop((bigSep Finset.univ fun k : CK => iprop(∃ κ : ℕ, cellInv ER (Rd (xs m ρ)) κ (kcell (c, k))))
          ∗ (bigSep Finset.univ fun k : CK => iprop(atPos ER (kcell (c, k)) 0 ∅ 0 ∗ reached ER (kcell (c, k)) 0)) ∗ toks c) : sProp 𝕄)
      ⊢ bigSep Finset.univ (dealt m ρ) := by
  rw [bigSep_sep', bigSep_sep', ← bigSep_univ_prod (fun ck : Dev nD × CK => iprop(∃ κ : ℕ, cellInv ER (Rd (xs m ρ)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd (xs m ρ)) κ (kcell ck) : sProp 𝕄))) $$ HI
  icases HK with ⟨%K, #HI⟩
  iapply (bigSep_with_persistent (R := records (xs m ρ) K) (Φ := linear) fun c _ => show _ ⊢ dealt m ρ c by
    unfold dealt; iintro H; iexists K; iexact H)
  isplitr
  · rw [records_eq]; isplitl; · iexact HI
    iexact HR
  · unfold linear
    rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ deal m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The launch credit -/

theorem pt_swap {l : Fin 3} {c d : Dev nD} : Iff (c = pt l d) (d = pt l c) :=
  ⟨fun h => by rw [h, pt_pt], fun h => by rw [h, pt_pt]⟩

theorem recv_eq {c d : Dev nD} {i j : Fin 15} (h : rcell c i = rcell d j) : c = d ∧ i = j := by
  have := kcell_injective (a₁ := (c, .inr (.inr i))) (a₂ := (d, .inr (.inr j))) h
  exact ⟨congrArg Prod.fst this, Sum.inr.inj (Sum.inr.inj (congrArg Prod.snd this))⟩
theorem bar_eq {c d : Dev nD} (h : bcell c = bcell d) : c = d := congrArg (fun g : GSem nD τ sig => g.1.1) h
theorem recv_ne_bar (c d : Dev nD) (i : Fin 15) : rcell c i ≠ bcell d := fun h => by cases congrArg Prod.snd h

/-- What device `d` owes a receive cell for the transfers of a list. -/
theorem owe_recv (d c : Dev nD) (i : Fin 15) : ∀ l : List (Fin 15), l.Nodup →
    owe d l (rcell c i) () = if d = pt (lk i) c ∧ i ∈ l then N i else 0
  | [], _ => by rw [if_neg (fun h => absurd h.2 List.not_mem_nil)]; rfl
  | j :: is, hl => by
      have ih := owe_recv d c i is (List.nodup_cons.mp hl).2
      have hj := (List.nodup_cons.mp hl).1
      unfold owe
      rw [Pi.add_apply, Finsupp.add_apply, ih]
      by_cases hij : i = j
      · subst hij
        rw [if_neg (fun h => hj h.2), Nat.zero_add, tallyAt_apply]
        refine if_congr ⟨fun h => ⟨pt_swap.mp (recv_eq h.1).1, List.mem_cons_self⟩, fun h => ⟨?_, rfl⟩⟩ rfl rfl
        rw [← pt_swap.mpr h.1]
      · rw [tallyAt_ne_cell (fun h => hij (recv_eq h).2), Finsupp.zero_apply, Nat.add_zero]
        exact if_congr (and_congr_right fun _ => ⟨fun h => List.mem_cons_of_mem _ h, fun h => (List.mem_cons.mp h).resolve_left hij⟩) rfl rfl

/-- No transfer credits a barrier cell. -/
theorem owe_bar (d c : Dev nD) (l : List (Fin 15)) : owe d l (bcell c) () = 0 := by
  by_contra h
  obtain ⟨i, -, hi⟩ := owe_pos (Nat.pos_of_ne_zero h)
  exact recv_ne_bar _ _ _ hi.symm

theorem owed_recv (d c : Dev nD) (i : Fin 15) : O₀ d (rcell c i) () = if d = pt (lk i) c then N i else 0 := by
  unfold O₀ O₁ O₂ O₃
  simp only [Pi.add_apply, Finsupp.add_apply]
  rw [owe_recv d c i _ (List.nodup_finRange 15), tallyAt_ne_cell (recv_ne_bar _ _ _), tallyAt_ne_cell (recv_ne_bar _ _ _),
    tallyAt_ne_cell (recv_ne_bar _ _ _), Finsupp.zero_apply, Nat.add_zero, Nat.add_zero, Nat.add_zero]
  exact if_congr ⟨fun h => h.1, fun h => ⟨h, List.mem_finRange i⟩⟩ rfl rfl

theorem sig_bar (d c : Dev nD) (l : Fin 3) :
    (tallyAt (bcell (pt l d)) () 1 : CellTallies nD τ sig Unit) (bcell c) () = if d = pt l c then 1 else 0 := by
  rw [tallyAt_apply]
  refine if_congr ⟨fun h => pt_swap.mp (bar_eq h.1), fun h => ⟨?_, rfl⟩⟩ rfl rfl
  rw [← pt_swap.mpr h]

theorem owed_bar (d c : Dev nD) : O₀ d (bcell c) ()
    = (if d = pt 2 c then 1 else 0) + (if d = pt 1 c then 1 else 0) + (if d = pt 0 c then 1 else 0) := by
  unfold O₀ O₁ O₂ O₃
  simp only [Pi.add_apply, Finsupp.add_apply]
  rw [owe_bar, sig_bar, sig_bar, sig_bar, Nat.zero_add]

theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (pt 2 c) fun _ => 1, Finset.sum_ite_eq' Finset.univ (pt 1 c) fun _ => 1,
    Finset.sum_ite_eq' Finset.univ (pt 0 c) fun _ => 1, if_pos (Finset.mem_univ _), if_pos (Finset.mem_univ _), if_pos (Finset.mem_univ _)]

theorem launch_recv (c : Dev nD) (i : Fin 15) :
    tallyOn (rcell c i) (launchCredit (Pipeline.owing O₀) 0 (rcell c i)) = (tallyAt (rcell c i) () (N i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (pt (lk i) c) fun _ => N i, if_pos (Finset.mem_univ _)]

/-- The receive semaphores, as a set of one device's semaphores. -/
def recvSems : Finset (SemLoc sig) :=
  Finset.univ.map ⟨fun i : Fin 15 => SemLoc.dma (recvS i), fun i j h =>
    Sum.inr.inj (Sum.inr.inj (csem_injective (a₁ := .inr (.inr i)) (a₂ := .inr (.inr j)) h))⟩

theorem creds (c : Dev nD) : (Pipeline.launchCred O₀ c : sProp 𝕄) ⊢ credits c := by
  unfold Pipeline.launchCred credits
  rw [bigSep_univ_at _ (SemLoc.reg barS), launch_bar]
  refine sep_mono_right ((bigSep_subset (t := recvSems) ?_).trans ?_)
  · intro q hq
    obtain ⟨i, -, rfl⟩ := Finset.mem_map.mp hq
    exact Finset.mem_erase.mpr ⟨nofun, Finset.mem_univ _⟩
  · unfold recvSems
    rw [bigSep_map]
    exact bigSep_mono fun i _ => Entails.of_eq (congrArg cred (launch_recv c i))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (creds (F := F) c) $$ Hcr
  imodintro
  unfold start dealt
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero semaphores: every weakly fair
    execution ends, each window's array at the computed contents and every semaphore at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` after the run is what it was, -/
theorem finalA_x (c : Dev nD) : finalA m ρ c (0 : Fin 3) = (st₀ m ρ).mem ((c : Thread nD τ).loc main_arg0) :=
  (dats (F := F) m ρ 0 c).arrAt_in (0 : Fin 3) rfl _
/-- the columns of `w` too, -/
theorem finalA_w (c : Dev nD) : finalA m ρ c (1 : Fin 3) = (st₀ m ρ).mem ((c : Thread nD τ).loc main_arg1) :=
  (dats (F := F) m ρ 0 c).arrAt_in (1 : Fin 3) rfl _
/-- and the result is the eight products, from what was launched. -/
theorem finalA_r (c : Dev nD) : finalA m ρ c (2 : Fin 3) = outG (xs m ρ) (ws m ρ) c :=
  (dats (F := F) m ρ 0 c).arrAt_eq_of_after_last (2 : Fin 3) t0_0 (by decide +kernel) _ fun j => rfl

/-- A window as large as its array reads the array. -/
theorem xs_eq (c : Dev nD) : xs m ρ c = m ((c : Thread nD τ).loc main_arg0) := by
  funext i
  refine congrArg (m ((c : Thread nD τ).loc main_arg0)) (funext fun a => Fin.ext ?_)
  show 0 * _ + 1 * (i a).val = (i a).val
  rw [Nat.zero_mul, Nat.zero_add, Nat.one_mul]
theorem ws_eq (c : Dev nD) : ws m ρ c = m ((c : Thread nD τ).loc main_arg1) := by
  funext i
  refine congrArg (m ((c : Thread nD τ).loc main_arg1)) (funext fun a => Fin.ext ?_)
  show 0 * _ + 1 * (i a).val = (i a).val
  rw [Nat.zero_mul, Nat.zero_add, Nat.one_mul]

/-- The kernel's run: every weakly fair execution ends, with each device's result the eight products of the blocks of `x`
    with its own columns of `w`, both arguments as they were, and every semaphore at zero. -/
theorem run : θ_run defs (onTc (τ := τ) (main (F := F))) ⟨m, fun _ => 0, ρ⟩ (fun r => (∀ c : Dev nD,
      r.2.mem ((c : Thread nD τ).loc main_v1)
        = outG (fun d : Dev nD => m ((d : Thread nD τ).loc main_arg0)) (fun d : Dev nD => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨by
      rw [← (show xs m ρ = fun d : Dev nD => m ((d : Thread nD τ).loc main_arg0) from funext fun d : Dev nD => xs_eq m ρ d),
        ← (show ws m ρ = fun d : Dev nD => m ((d : Thread nD τ).loc main_arg1) from funext fun d : Dev nD => ws_eq m ρ d)]
      exact (h.1 c (2 : Fin 3)).trans (finalA_r m ρ c),
    (h.1 c (0 : Fin 3)).trans (finalA_x m ρ c), (h.1 c (1 : Fin 3)).trans (finalA_w m ρ c)⟩, h.2⟩) (run_main m ρ)

end Cert.KernelIdealProof

end
-- ==== Proof.Equation.lean ====
/-
  The value of the certificate: block `c` of the reference's result, cut along the columns, is what the kernel leaves on
  device `c`. Both are `max (Σ_k x[r,k] · w[k,j]) 0`; the kernel's product is of block `r / 256` of `x`, whose row
  `r % 256` is row `r` of the whole.
-/
module

public import proofs.«01_k».proof.Proof.KernelIdealLaunch
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.ValueIdx

@[expose] public section

noncomputable section

namespace Cert.EquationProof

open Idealize.ShloMosaic Idealize.ShloMosaic.ValueIdx Idealize.ShloMosaic.StackMember
open Cert.KernelIdealProof
open scoped BigOperators

/-- The reference's result from its two arguments. -/
def refOut (x w : (⟨2, ![2048, 2048]⟩ : Shape).Idx → Elt Ideal .f32) : (⟨2, ![2048, 2048]⟩ : Shape).Idx → Elt Ideal .f32 :=
  maximumf (F := Ideal) (φ := .f32)
    (Host.dotGeneral (φ₁ := .f32) (φ₂ := .f32) Cert.ReferenceIdeal.dot_S2048x2048_S2048x2048_S2048x2048_1_0_0_1_n_n none x w)
    (broadcastInDim Cert.ReferenceIdeal.S2048x2048 ![] Cert.ReferenceIdeal.Gen.bcast_S_S2048x2048
      (constant Cert.ReferenceIdeal.S_ .f32 0x00000000#32))

/-- The reference's result at row `r`, column `j`. -/
theorem refOut_apply (x w : (⟨2, ![2048, 2048]⟩ : Shape).Idx → Elt Ideal .f32) (r j : Fin 2048) :
    refOut x w (ix2 r j)
      = FloatOps.maximumf (F := Ideal) (φ := .f32) (∑ k : Fin 2048, x (ix2 r k) * w (ix2 k j)) (FloatOps.ofBits .f32 0x00000000#32) :=
  congrArg (fun z => FloatOps.maximumf (F := Ideal) (φ := .f32) z (FloatOps.ofBits .f32 0x00000000#32))
    (dotGeneral_plain_apply (m := 2048) (k := 2048) (n := 2048) (φ₁ := .f32) (φ₂ := .f32) none x w r j)

/-- One block of the kernel's result at row `r`, column `j`. -/
theorem blkv_apply (x : (⟨2, ![256, 2048]⟩ : Shape).Idx → Elt Ideal .f32) (w : (⟨2, ![2048, 256]⟩ : Shape).Idx → Elt Ideal .f32)
    (r j : Fin 256) : blkv (F := Ideal) x w (ix2 r j)
      = FloatOps.maximumf (F := Ideal) (φ := .f32) (∑ k : Fin 2048, x (ix2 r k) * w (ix2 k j)) (FloatOps.ofBits .f32 0x00000000#32) := by
  refine congrArg (fun z => FloatOps.maximumf (F := Ideal) (φ := .f32) z (FloatOps.ofBits .f32 0x00000000#32)) ?_
  refine (congrArg (fun v => FloatOps.matmul (DotDims.plain 256 2048 256) none x v
    (constant (F := Ideal) ⟨2, ![256, 256]⟩ .f32 0x00000000#32) (ix2 r j)) (shapeCast_self (s := ⟨2, ![2048, 256]⟩) w _)).trans ?_
  refine (Ideal.matmul_plain_apply (φ₁ := .f32) (φ₂ := .f32) none x w _ r j).trans ?_
  rw [show constant (F := Ideal) ⟨2, ![256, 256]⟩ .f32 0x00000000#32 (ix2 r j) = 0 from Ideal.ofBits_zero_f32, zero_add]

/-- **The kernel's result is the reference's**, block by block of columns. -/
theorem outG_block (X : XT Ideal) (W : WT Ideal) (x w : (⟨2, ![2048, 2048]⟩ : Shape).Idx → Elt Ideal .f32)
    (hX : ∀ d, X d = Layout.block ⟨2, ![256, 2048]⟩ ⟨2, ![2048, 2048]⟩ 0 8 d x)
    (hW : ∀ d, W d = Layout.block ⟨2, ![2048, 256]⟩ ⟨2, ![2048, 2048]⟩ 1 8 d w) (c : Dev Cert.KernelIdeal.nD) :
    outG X W c = Layout.block ⟨2, ![2048, 256]⟩ ⟨2, ![2048, 2048]⟩ 1 8 c (refOut x w) := by
  have hT : Layout.Tiles ⟨2, ![256, 2048]⟩ ⟨2, ![2048, 2048]⟩ 0 8 := by decide
  have hU : Layout.Tiles ⟨2, ![2048, 256]⟩ ⟨2, ![2048, 2048]⟩ 1 8 := by decide
  funext i
  rw [Layout.block_apply, eq_ix2 (hU.idx c i)]
  refine (congrArg (blkv (X (blkOf (i 0))) (W c)) (eq_ix2 (n0 := 256) (n1 := 256) (at2 (rowOf (i 0)) (i 1)))).trans ?_
  refine (blkv_apply (X (blkOf (i 0))) (W c) (rowOf (i 0)) (i 1)).trans (Eq.trans ?_ (refOut_apply x w _ _).symm)
  refine congrArg (fun z => FloatOps.maximumf (F := Ideal) (φ := .f32) z (FloatOps.ofBits .f32 0x00000000#32))
    (Finset.sum_congr rfl fun k _ => ?_)
  rw [hX, hW, Layout.block_apply, Layout.block_apply]
  refine congrArg₂ (· * ·) (congrArg x (funext fun a => Fin.ext ?_)) (congrArg w (funext fun a => Fin.ext ?_))
  · match a with
    | ⟨0, _⟩ => exact Nat.div_add_mod' (i 0).val 256
    | ⟨1, _⟩ => rfl
  · match a with
    | ⟨0, _⟩ => rfl
    | ⟨1, _⟩ => rfl

end Cert.EquationProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates without a fault, its arguments unchanged and every semaphore at zero. -/
theorem frame_Kernel : Cert.quiescent_Kernel (hKernel := Cert.Kernel.Gen.facts) := fun m g _ =>
  (θ_run _ _ _).mono (fun _ h => ⟨fun c => (h.1 c).2, h.2⟩) (Cert.KernelProof.run (F := Bits) m g)

/-- So does its idealisation. -/
theorem frame_KernelIdeal : Cert.quiescent_KernelIdeal (hKernelIdeal := Cert.KernelIdeal.Gen.facts) := fun m g _ =>
  (θ_run _ _ _).mono (fun _ h => ⟨fun c => (h.1 c).2, h.2⟩) (Cert.KernelIdealProof.run (F := Ideal) m g)

/-- So does the reference, which has no semaphore. -/
theorem frame_ReferenceIdeal : Cert.quiescent_ReferenceIdeal (hReferenceIdeal := Cert.ReferenceIdeal.Gen.facts) := fun m g _ =>
  (θ_run _ _ _).mono (fun _ h => ⟨fun c => (h c).2, funext fun s => nomatch s⟩) (Cert.ReferenceIdeal.Value.run (F := Ideal) m g)

/-- Over the ideal values the kernel's result is, device by device, the reference's, cut along its columns. -/
theorem value : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun _ h c => ⟨(h.1 c).1.trans (Cert.EquationProof.outG_block _ _ _ _ (fun d => (hm d).1) (fun d => (hm d).2) c),
      (h.1 c).2⟩) (Cert.KernelIdealProof.run (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
